-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![32768, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Pre_finite_qk_ReferenceIdeal.lean ====
abbrev S32768x256 : Shape := ⟨2, ![32768, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .f32) (main_arg1 : FVec F S32768x256 .f32) (main_arg2 : FVec F S32768x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  main_v8
-- ==== Kernel.lean ====
abbrev S4096x256 : Shape := ⟨2, ![4096, 256]⟩
abbrev S3x2x2048x256 : Shape := ⟨4, ![3, 2, 2048, 256]⟩
abbrev S4096x1 : Shape := ⟨2, ![4096, 1]⟩
abbrev S3 : Shape := ⟨1, ![3]⟩
abbrev S_ : Shape := ⟨0, ![]⟩
abbrev S2048x256 : Shape := ⟨2, ![2048, 256]⟩
abbrev S1x1x2048x256 : Shape := ⟨4, ![1, 1, 2048, 256]⟩
abbrev S1 : Shape := ⟨1, ![1]⟩
abbrev S512x256 : Shape := ⟨2, ![512, 256]⟩
abbrev S512x1 : Shape := ⟨2, ![512, 1]⟩
abbrev S512x2048 : Shape := ⟨2, ![512, 2048]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .bf16⟩
  | .local _ .vmem, ⟨5, _⟩ => ⟨S3x2x2048x256, .bf16⟩
  | .local _ .vmem, ⟨6, _⟩ => ⟨S3x2x2048x256, .bf16⟩
  | .local _ .vmem, ⟨7, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 3 28 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_28 : BitVec 32 := 1#32
  let v36 : BitVec 32 := Scalar.muli v34 c1_i32_28
  let v37 : BitVec 32 := Scalar.addi c0_i32_29 v36
  v37.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_31 : BitVec 32 := 1#32
  let v38 : BitVec 32 := Scalar.muli v32 c1_i32_31
  let v39 : BitVec 32 := Scalar.addi c0_i32_32 v38
  v39.toNat
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_70 : BitVec 32 := 1#32
  let v76 : BitVec 32 := Scalar.muli v32 c1_i32_70
  let v77 : BitVec 32 := Scalar.addi c0_i32_71 v76
  v77.toNat
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_82 : BitVec 32 := 1#32
  let v86 : BitVec 32 := Scalar.muli v34 c1_i32_82
  let v87 : BitVec 32 := Scalar.addi c0_i32_83 v86
  v87.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_94 : BitVec 32 := 1#32
  let v96 : BitVec 32 := Scalar.muli v32 c1_i32_94
  let v97 : BitVec 32 := Scalar.addi c0_i32_95 v96
  v97.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_106 : BitVec 32 := 1#32
  let v106 : BitVec 32 := Scalar.muli v34 c1_i32_106
  let v107 : BitVec 32 := Scalar.addi c0_i32_107 v106
  v107.toNat
@[reducible] def k0_t1_loop : Scf.Loop 32 :=
  let c0_i32_112 : BitVec 32 := 0#32
  let c8_i32_113 : BitVec 32 := 8#32
  let v116 : BitVec 32 := Scalar.addi c0_i32_112 c8_i32_113
  let c1_i32_114 : BitVec 32 := 1#32
  ⟨c0_i32_112, v116, c1_i32_114⟩
def k0_off1 (k0_t1 : Fin k0_t1_loop.trips) : Fin 2 → Nat :=
  let c0_i32_112 : BitVec 32 := 0#32
  let c1_i32_114 : BitVec 32 := 1#32
  let arg18 : BitVec 32 := Scf.iv c0_i32_112 c1_i32_114 k0_t1
  let c512_i32 : BitVec 32 := 512#32
  let v777 : BitVec 32 := Scalar.muli arg18 c512_i32
  let v778 : Index := Scalar.indexCast v777
  let c0_1130 : Index := 0#32
  ![v778.toNat, 0]
def k0_off2 (k0_t1 : Fin k0_t1_loop.trips) : Fin 2 → Nat :=
  let c0_i32_112 : BitVec 32 := 0#32
  let c1_i32_114 : BitVec 32 := 1#32
  let arg18 : BitVec 32 := Scf.iv c0_i32_112 c1_i32_114 k0_t1
  let c512_i32 : BitVec 32 := 512#32
  let v777 : BitVec 32 := Scalar.muli arg18 c512_i32
  let v783 : Index := Scalar.indexCast v777
  let c0_1132 : Index := 0#32
  ![v783.toNat, 0]
def k0_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_185 : BitVec 32 := 1#32
  let v157 : BitVec 32 := Scalar.muli v34 c1_i32_185
  let v158 : BitVec 32 := Scalar.addi c0_i32_186 v157
  v158.toNat
def k0_dev8 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_188 : BitVec 32 := 1#32
  let v159 : BitVec 32 := Scalar.muli v32 c1_i32_188
  let v160 : BitVec 32 := Scalar.addi c0_i32_189 v159
  v160.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_196 : BitVec 32 := 1#32
  let v161 : BitVec 32 := Scalar.muli v32 c1_i32_196
  let v162 : BitVec 32 := Scalar.addi c0_i32_197 v161
  v162.toNat
def k0_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_208 : BitVec 32 := 1#32
  let v171 : BitVec 32 := Scalar.muli v34 c1_i32_208
  let v172 : BitVec 32 := Scalar.addi c0_i32_209 v171
  v172.toNat
def k0_dev11 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_244 : BitVec 32 := 1#32
  let v197 : BitVec 32 := Scalar.muli v32 c1_i32_244
  let v198 : BitVec 32 := Scalar.addi c0_i32_245 v197
  v198.toNat
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_256 : BitVec 32 := 1#32
  let v207 : BitVec 32 := Scalar.muli v34 c1_i32_256
  let v208 : BitVec 32 := Scalar.addi c0_i32_257 v207
  v208.toNat
@[reducible] def k0_t2_loop : Scf.Loop 32 :=
  let c0_i32_262 : BitVec 32 := 0#32
  let c8_i32_263 : BitVec 32 := 8#32
  let v217 : BitVec 32 := Scalar.addi c0_i32_262 c8_i32_263
  let c1_i32_264 : BitVec 32 := 1#32
  ⟨c0_i32_262, v217, c1_i32_264⟩
def k0_off3 (k0_t2 : Fin k0_t2_loop.trips) : Fin 2 → Nat :=
  let c0_i32_262 : BitVec 32 := 0#32
  let c1_i32_264 : BitVec 32 := 1#32
  let arg18 : BitVec 32 := Scf.iv c0_i32_262 c1_i32_264 k0_t2
  let c512_i32 : BitVec 32 := 512#32
  let v777 : BitVec 32 := Scalar.muli arg18 c512_i32
  let v778 : Index := Scalar.indexCast v777
  let c0_1130 : Index := 0#32
  ![v778.toNat, 0]
def k0_off4 (k0_t2 : Fin k0_t2_loop.trips) : Fin 2 → Nat :=
  let c0_i32_262 : BitVec 32 := 0#32
  let c1_i32_264 : BitVec 32 := 1#32
  let arg18 : BitVec 32 := Scf.iv c0_i32_262 c1_i32_264 k0_t2
  let c512_i32 : BitVec 32 := 512#32
  let v777 : BitVec 32 := Scalar.muli arg18 c512_i32
  let v783 : Index := Scalar.indexCast v777
  let c0_1132 : Index := 0#32
  ![v783.toNat, 0]
def k0_dev13 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_335 : BitVec 32 := 1#32
  let v258 : BitVec 32 := Scalar.muli v34 c1_i32_335
  let v259 : BitVec 32 := Scalar.addi c0_i32_336 v258
  v259.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_338 : BitVec 32 := 1#32
  let v260 : BitVec 32 := Scalar.muli v32 c1_i32_338
  let v261 : BitVec 32 := Scalar.addi c0_i32_339 v260
  v261.toNat
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_350 : BitVec 32 := 1#32
  let v262 : BitVec 32 := Scalar.muli v32 c1_i32_350
  let v263 : BitVec 32 := Scalar.addi c0_i32_351 v262
  v263.toNat
def k0_dev16 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_362 : BitVec 32 := 1#32
  let v272 : BitVec 32 := Scalar.muli v34 c1_i32_362
  let v273 : BitVec 32 := Scalar.addi c0_i32_363 v272
  v273.toNat
def k0_dev17 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_398 : BitVec 32 := 1#32
  let v298 : BitVec 32 := Scalar.muli v32 c1_i32_398
  let v299 : BitVec 32 := Scalar.addi c0_i32_399 v298
  v299.toNat
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_410 : BitVec 32 := 1#32
  let v308 : BitVec 32 := Scalar.muli v34 c1_i32_410
  let v309 : BitVec 32 := Scalar.addi c0_i32_411 v308
  v309.toNat
@[reducible] def k0_t3_loop : Scf.Loop 32 :=
  let c0_i32_416 : BitVec 32 := 0#32
  let c8_i32_417 : BitVec 32 := 8#32
  let v318 : BitVec 32 := Scalar.addi c0_i32_416 c8_i32_417
  let c1_i32_418 : BitVec 32 := 1#32
  ⟨c0_i32_416, v318, c1_i32_418⟩
def k0_off5 (k0_t3 : Fin k0_t3_loop.trips) : Fin 2 → Nat :=
  let c0_i32_416 : BitVec 32 := 0#32
  let c1_i32_418 : BitVec 32 := 1#32
  let arg18 : BitVec 32 := Scf.iv c0_i32_416 c1_i32_418 k0_t3
  let c512_i32 : BitVec 32 := 512#32
  let v777 : BitVec 32 := Scalar.muli arg18 c512_i32
  let v778 : Index := Scalar.indexCast v777
  let c0_1130 : Index := 0#32
  ![v778.toNat, 0]
def k0_off6 (k0_t3 : Fin k0_t3_loop.trips) : Fin 2 → Nat :=
  let c0_i32_416 : BitVec 32 := 0#32
  let c1_i32_418 : BitVec 32 := 1#32
  let arg18 : BitVec 32 := Scf.iv c0_i32_416 c1_i32_418 k0_t3
  let c512_i32 : BitVec 32 := 512#32
  let v777 : BitVec 32 := Scalar.muli arg18 c512_i32
  let v783 : Index := Scalar.indexCast v777
  let c0_1132 : Index := 0#32
  ![v783.toNat, 0]
def k0_dev19 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_489 : BitVec 32 := 1#32
  let v359 : BitVec 32 := Scalar.muli v34 c1_i32_489
  let v360 : BitVec 32 := Scalar.addi c0_i32_490 v359
  v360.toNat
def k0_dev20 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_492 : BitVec 32 := 1#32
  let v361 : BitVec 32 := Scalar.muli v32 c1_i32_492
  let v362 : BitVec 32 := Scalar.addi c0_i32_493 v361
  v362.toNat
def k0_dev21 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_504 : BitVec 32 := 1#32
  let v363 : BitVec 32 := Scalar.muli v32 c1_i32_504
  let v364 : BitVec 32 := Scalar.addi c0_i32_505 v363
  v364.toNat
def k0_dev22 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_516 : BitVec 32 := 1#32
  let v373 : BitVec 32 := Scalar.muli v34 c1_i32_516
  let v374 : BitVec 32 := Scalar.addi c0_i32_517 v373
  v374.toNat
def k0_dev23 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_552 : BitVec 32 := 1#32
  let v399 : BitVec 32 := Scalar.muli v32 c1_i32_552
  let v400 : BitVec 32 := Scalar.addi c0_i32_553 v399
  v400.toNat
def k0_dev24 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_564 : BitVec 32 := 1#32
  let v409 : BitVec 32 := Scalar.muli v34 c1_i32_564
  let v410 : BitVec 32 := Scalar.addi c0_i32_565 v409
  v410.toNat
@[reducible] def k0_t4_loop : Scf.Loop 32 :=
  let c0_i32_570 : BitVec 32 := 0#32
  let c8_i32_571 : BitVec 32 := 8#32
  let v419 : BitVec 32 := Scalar.addi c0_i32_570 c8_i32_571
  let c1_i32_572 : BitVec 32 := 1#32
  ⟨c0_i32_570, v419, c1_i32_572⟩
def k0_off7 (k0_t4 : Fin k0_t4_loop.trips) : Fin 2 → Nat :=
  let c0_i32_570 : BitVec 32 := 0#32
  let c1_i32_572 : BitVec 32 := 1#32
  let arg18 : BitVec 32 := Scf.iv c0_i32_570 c1_i32_572 k0_t4
  let c512_i32 : BitVec 32 := 512#32
  let v777 : BitVec 32 := Scalar.muli arg18 c512_i32
  let v778 : Index := Scalar.indexCast v777
  let c0_1130 : Index := 0#32
  ![v778.toNat, 0]
def k0_off8 (k0_t4 : Fin k0_t4_loop.trips) : Fin 2 → Nat :=
  let c0_i32_570 : BitVec 32 := 0#32
  let c1_i32_572 : BitVec 32 := 1#32
  let arg18 : BitVec 32 := Scf.iv c0_i32_570 c1_i32_572 k0_t4
  let c512_i32 : BitVec 32 := 512#32
  let v777 : BitVec 32 := Scalar.muli arg18 c512_i32
  let v783 : Index := Scalar.indexCast v777
  let c0_1132 : Index := 0#32
  ![v783.toNat, 0]
def k0_dev25 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_643 : BitVec 32 := 1#32
  let v460 : BitVec 32 := Scalar.muli v34 c1_i32_643
  let v461 : BitVec 32 := Scalar.addi c0_i32_644 v460
  v461.toNat
def k0_dev26 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_646 : BitVec 32 := 1#32
  let v462 : BitVec 32 := Scalar.muli v32 c1_i32_646
  let v463 : BitVec 32 := Scalar.addi c0_i32_647 v462
  v463.toNat
def k0_dev27 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_658 : BitVec 32 := 1#32
  let v464 : BitVec 32 := Scalar.muli v32 c1_i32_658
  let v465 : BitVec 32 := Scalar.addi c0_i32_659 v464
  v465.toNat
def k0_dev28 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_670 : BitVec 32 := 1#32
  let v474 : BitVec 32 := Scalar.muli v34 c1_i32_670
  let v475 : BitVec 32 := Scalar.addi c0_i32_671 v474
  v475.toNat
def k0_dev29 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_706 : BitVec 32 := 1#32
  let v500 : BitVec 32 := Scalar.muli v32 c1_i32_706
  let v501 : BitVec 32 := Scalar.addi c0_i32_707 v500
  v501.toNat
def k0_dev30 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_718 : BitVec 32 := 1#32
  let v510 : BitVec 32 := Scalar.muli v34 c1_i32_718
  let v511 : BitVec 32 := Scalar.addi c0_i32_719 v510
  v511.toNat
@[reducible] def k0_t5_loop : Scf.Loop 32 :=
  let c0_i32_724 : BitVec 32 := 0#32
  let c8_i32_725 : BitVec 32 := 8#32
  let v520 : BitVec 32 := Scalar.addi c0_i32_724 c8_i32_725
  let c1_i32_726 : BitVec 32 := 1#32
  ⟨c0_i32_724, v520, c1_i32_726⟩
def k0_off9 (k0_t5 : Fin k0_t5_loop.trips) : Fin 2 → Nat :=
  let c0_i32_724 : BitVec 32 := 0#32
  let c1_i32_726 : BitVec 32 := 1#32
  let arg18 : BitVec 32 := Scf.iv c0_i32_724 c1_i32_726 k0_t5
  let c512_i32 : BitVec 32 := 512#32
  let v777 : BitVec 32 := Scalar.muli arg18 c512_i32
  let v778 : Index := Scalar.indexCast v777
  let c0_1130 : Index := 0#32
  ![v778.toNat, 0]
def k0_off10 (k0_t5 : Fin k0_t5_loop.trips) : Fin 2 → Nat :=
  let c0_i32_724 : BitVec 32 := 0#32
  let c1_i32_726 : BitVec 32 := 1#32
  let arg18 : BitVec 32 := Scf.iv c0_i32_724 c1_i32_726 k0_t5
  let c512_i32 : BitVec 32 := 512#32
  let v777 : BitVec 32 := Scalar.muli arg18 c512_i32
  let v783 : Index := Scalar.indexCast v777
  let c0_1132 : Index := 0#32
  ![v783.toNat, 0]
def k0_dev31 (d0 : Dev nD) : Nat :=
  let c0_i32_798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_797 : BitVec 32 := 1#32
  let v561 : BitVec 32 := Scalar.muli v34 c1_i32_797
  let v562 : BitVec 32 := Scalar.addi c0_i32_798 v561
  v562.toNat
def k0_dev32 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_800 : BitVec 32 := 1#32
  let v563 : BitVec 32 := Scalar.muli v32 c1_i32_800
  let v564 : BitVec 32 := Scalar.addi c0_i32_801 v563
  v564.toNat
def k0_dev33 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_812 : BitVec 32 := 1#32
  let v565 : BitVec 32 := Scalar.muli v32 c1_i32_812
  let v566 : BitVec 32 := Scalar.addi c0_i32_813 v565
  v566.toNat
def k0_dev34 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_824 : BitVec 32 := 1#32
  let v575 : BitVec 32 := Scalar.muli v34 c1_i32_824
  let v576 : BitVec 32 := Scalar.addi c0_i32_825 v575
  v576.toNat
def k0_dev35 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_860 : BitVec 32 := 1#32
  let v601 : BitVec 32 := Scalar.muli v32 c1_i32_860
  let v602 : BitVec 32 := Scalar.addi c0_i32_861 v601
  v602.toNat
def k0_dev36 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_872 : BitVec 32 := 1#32
  let v611 : BitVec 32 := Scalar.muli v34 c1_i32_872
  let v612 : BitVec 32 := Scalar.addi c0_i32_873 v611
  v612.toNat
@[reducible] def k0_t6_loop : Scf.Loop 32 :=
  let c0_i32_878 : BitVec 32 := 0#32
  let c8_i32_879 : BitVec 32 := 8#32
  let v621 : BitVec 32 := Scalar.addi c0_i32_878 c8_i32_879
  let c1_i32_880 : BitVec 32 := 1#32
  ⟨c0_i32_878, v621, c1_i32_880⟩
def k0_off11 (k0_t6 : Fin k0_t6_loop.trips) : Fin 2 → Nat :=
  let c0_i32_878 : BitVec 32 := 0#32
  let c1_i32_880 : BitVec 32 := 1#32
  let arg18 : BitVec 32 := Scf.iv c0_i32_878 c1_i32_880 k0_t6
  let c512_i32 : BitVec 32 := 512#32
  let v777 : BitVec 32 := Scalar.muli arg18 c512_i32
  let v778 : Index := Scalar.indexCast v777
  let c0_1130 : Index := 0#32
  ![v778.toNat, 0]
def k0_off12 (k0_t6 : Fin k0_t6_loop.trips) : Fin 2 → Nat :=
  let c0_i32_878 : BitVec 32 := 0#32
  let c1_i32_880 : BitVec 32 := 1#32
  let arg18 : BitVec 32 := Scf.iv c0_i32_878 c1_i32_880 k0_t6
  let c512_i32 : BitVec 32 := 512#32
  let v777 : BitVec 32 := Scalar.muli arg18 c512_i32
  let v783 : Index := Scalar.indexCast v777
  let c0_1132 : Index := 0#32
  ![v783.toNat, 0]
def k0_dev37 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_960 : BitVec 32 := 1#32
  let v662 : BitVec 32 := Scalar.muli v32 c1_i32_960
  let v663 : BitVec 32 := Scalar.addi c0_i32_961 v662
  v663.toNat
def k0_dev38 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_972 : BitVec 32 := 1#32
  let v672 : BitVec 32 := Scalar.muli v34 c1_i32_972
  let v673 : BitVec 32 := Scalar.addi c0_i32_973 v672
  v673.toNat
def k0_dev39 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_23 : BitVec 32 := 7#32
  let v31 : BitVec 1 := Scalar.cmpi .eq v2 c7_i32_23
  let c6_i32_24 : BitVec 32 := 6#32
  let c6_i32_19 : BitVec 32 := 6#32
  let v27 : BitVec 1 := Scalar.cmpi .eq v2 c6_i32_19
  let c5_i32_20 : BitVec 32 := 5#32
  let c5_i32_16 : BitVec 32 := 5#32
  let v23 : BitVec 1 := Scalar.cmpi .eq v2 c5_i32_16
  let c4_i32_17 : BitVec 32 := 4#32
  let c4_i32_13 : BitVec 32 := 4#32
  let v19 : BitVec 1 := Scalar.cmpi .eq v2 c4_i32_13
  let c0_i32_14 : BitVec 32 := 0#32
  let c3_i32_10 : BitVec 32 := 3#32
  let v15 : BitVec 1 := Scalar.cmpi .eq v2 c3_i32_10
  let c7_i32 : BitVec 32 := 7#32
  let c2_i32_7 : BitVec 32 := 2#32
  let v11 : BitVec 1 := Scalar.cmpi .eq v2 c2_i32_7
  let c3_i32 : BitVec 32 := 3#32
  let c1_i32_4 : BitVec 32 := 1#32
  let v7 : BitVec 1 := Scalar.cmpi .eq v2 c1_i32_4
  let c2_i32 : BitVec 32 := 2#32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v8 : BitVec 32 := Scalar.select v7 c2_i32 v4
  let v12 : BitVec 32 := Scalar.select v11 c3_i32 v8
  let v16 : BitVec 32 := Scalar.select v15 c7_i32 v12
  let v20 : BitVec 32 := Scalar.select v19 c0_i32_14 v16
  let v24 : BitVec 32 := Scalar.select v23 c4_i32_17 v20
  let v28 : BitVec 32 := Scalar.select v27 c5_i32_20 v24
  let v32 : BitVec 32 := Scalar.select v31 c6_i32_24 v28
  let c1_i32_1008 : BitVec 32 := 1#32
  let v698 : BitVec 32 := Scalar.muli v32 c1_i32_1008
  let v699 : BitVec 32 := Scalar.addi c0_i32_1009 v698
  v699.toNat
def k0_dev40 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v33 : BitVec 1 := Scalar.cmpi .eq v2 c7_i32_25
  let c3_i32_26 : BitVec 32 := 3#32
  let c6_i32_21 : BitVec 32 := 6#32
  let v29 : BitVec 1 := Scalar.cmpi .eq v2 c6_i32_21
  let c7_i32_22 : BitVec 32 := 7#32
  let c5_i32_18 : BitVec 32 := 5#32
  let v25 : BitVec 1 := Scalar.cmpi .eq v2 c5_i32_18
  let c6_i32 : BitVec 32 := 6#32
  let c4_i32_15 : BitVec 32 := 4#32
  let v21 : BitVec 1 := Scalar.cmpi .eq v2 c4_i32_15
  let c5_i32 : BitVec 32 := 5#32
  let c3_i32_11 : BitVec 32 := 3#32
  let v17 : BitVec 1 := Scalar.cmpi .eq v2 c3_i32_11
  let c2_i32_12 : BitVec 32 := 2#32
  let c2_i32_8 : BitVec 32 := 2#32
  let v13 : BitVec 1 := Scalar.cmpi .eq v2 c2_i32_8
  let c1_i32_9 : BitVec 32 := 1#32
  let c1_i32_5 : BitVec 32 := 1#32
  let v9 : BitVec 1 := Scalar.cmpi .eq v2 c1_i32_5
  let c0_i32_6 : BitVec 32 := 0#32
  let c0_i32_2 : BitVec 32 := 0#32
  let v5 : BitVec 1 := Scalar.cmpi .eq v2 c0_i32_2
  let c4_i32 : BitVec 32 := 4#32
  let c0_i32_3 : BitVec 32 := 0#32
  let v6 : BitVec 32 := Scalar.select v5 c4_i32 c0_i32_3
  let v10 : BitVec 32 := Scalar.select v9 c0_i32_6 v6
  let v14 : BitVec 32 := Scalar.select v13 c1_i32_9 v10
  let v18 : BitVec 32 := Scalar.select v17 c2_i32_12 v14
  let v22 : BitVec 32 := Scalar.select v21 c5_i32 v18
  let v26 : BitVec 32 := Scalar.select v25 c6_i32 v22
  let v30 : BitVec 32 := Scalar.select v29 c7_i32_22 v26
  let v34 : BitVec 32 := Scalar.select v33 c3_i32_26 v30
  let c1_i32_1020 : BitVec 32 := 1#32
  let v708 : BitVec 32 := Scalar.muli v34 c1_i32_1020
  let v709 : BitVec 32 := Scalar.addi c0_i32_1021 v708
  v709.toNat
@[reducible] def k0_t7_loop : Scf.Loop 32 :=
  let c0_i32_1026 : BitVec 32 := 0#32
  let c8_i32_1027 : BitVec 32 := 8#32
  let v718 : BitVec 32 := Scalar.addi c0_i32_1026 c8_i32_1027
  let c1_i32_1028 : BitVec 32 := 1#32
  ⟨c0_i32_1026, v718, c1_i32_1028⟩
def k0_off13 (k0_t7 : Fin k0_t7_loop.trips) : Fin 2 → Nat :=
  let c0_i32_1026 : BitVec 32 := 0#32
  let c1_i32_1028 : BitVec 32 := 1#32
  let arg18 : BitVec 32 := Scf.iv c0_i32_1026 c1_i32_1028 k0_t7
  let c512_i32 : BitVec 32 := 512#32
  let v777 : BitVec 32 := Scalar.muli arg18 c512_i32
  let v778 : Index := Scalar.indexCast v777
  let c0_1130 : Index := 0#32
  ![v778.toNat, 0]
def k0_off14 (k0_t7 : Fin k0_t7_loop.trips) : Fin 2 → Nat :=
  let c0_i32_1026 : BitVec 32 := 0#32
  let c1_i32_1028 : BitVec 32 := 1#32
  let arg18 : BitVec 32 := Scf.iv c0_i32_1026 c1_i32_1028 k0_t7
  let c512_i32 : BitVec 32 := 512#32
  let v777 : BitVec 32 := Scalar.muli arg18 c512_i32
  let v783 : Index := Scalar.indexCast v777
  let c0_1132 : Index := 0#32
  ![v783.toNat, 0]
@[reducible] def k0_t8_loop : Scf.Loop 32 :=
  let c0_i32_1122 : BitVec 32 := 0#32
  let c8_i32_1123 : BitVec 32 := 8#32
  let v775 : BitVec 32 := Scalar.addi c0_i32_1122 c8_i32_1123
  let c1_i32_1124 : BitVec 32 := 1#32
  ⟨c0_i32_1122, v775, c1_i32_1124⟩
def k0_off15 (k0_t8 : Fin k0_t8_loop.trips) : Fin 2 → Nat :=
  let c0_i32_1122 : BitVec 32 := 0#32
  let c1_i32_1124 : BitVec 32 := 1#32
  let arg18 : BitVec 32 := Scf.iv c0_i32_1122 c1_i32_1124 k0_t8
  let c512_i32 : BitVec 32 := 512#32
  let v777 : BitVec 32 := Scalar.muli arg18 c512_i32
  let v778 : Index := Scalar.indexCast v777
  let c0_1130 : Index := 0#32
  ![v778.toNat, 0]
def k0_off16 (k0_t8 : Fin k0_t8_loop.trips) : Fin 2 → Nat :=
  let c0_i32_1122 : BitVec 32 := 0#32
  let c1_i32_1124 : BitVec 32 := 1#32
  let arg18 : BitVec 32 := Scf.iv c0_i32_1122 c1_i32_1124 k0_t8
  let c512_i32 : BitVec 32 := 512#32
  let v777 : BitVec 32 := Scalar.muli arg18 c512_i32
  let v783 : Index := Scalar.indexCast v777
  let c0_1132 : Index := 0#32
  ![v783.toNat, 0]
@[reducible] def k0_t9_loop : Scf.Loop 32 :=
  let c0_i32_1126 : BitVec 32 := 0#32
  let c8_i32_1127 : BitVec 32 := 8#32
  let v776 : BitVec 32 := Scalar.addi c0_i32_1126 c8_i32_1127
  let c1_i32_1128 : BitVec 32 := 1#32
  ⟨c0_i32_1126, v776, c1_i32_1128⟩
def k0_off17 (k0_t9 : Fin k0_t9_loop.trips) : Fin 2 → Nat :=
  let c0_i32_1126 : BitVec 32 := 0#32
  let c1_i32_1128 : BitVec 32 := 1#32
  let arg18 : BitVec 32 := Scf.iv c0_i32_1126 c1_i32_1128 k0_t9
  let c512_i32 : BitVec 32 := 512#32
  let v777 : BitVec 32 := Scalar.muli arg18 c512_i32
  let v778 : Index := Scalar.indexCast v777
  let c0_1130 : Index := 0#32
  ![v778.toNat, 0]
def k0_off18 (k0_t9 : Fin k0_t9_loop.trips) : Fin 2 → Nat :=
  let c0_i32_1126 : BitVec 32 := 0#32
  let c1_i32_1128 : BitVec 32 := 1#32
  let arg18 : BitVec 32 := Scf.iv c0_i32_1126 c1_i32_1128 k0_t9
  let c512_i32 : BitVec 32 := 512#32
  let v777 : BitVec 32 := Scalar.muli arg18 c512_i32
  let v781 : Index := Scalar.indexCast v777
  let c0_1131 : Index := 0#32
  ![v781.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x256 : Shape := ⟨2, ![32768, 256]⟩
abbrev S256x32768 : Shape := ⟨2, ![256, 32768]⟩
abbrev S32768x32768 : Shape := ⟨2, ![32768, 32768]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S256x32768, .f32⟩
  | .hbm, ⟨4, _⟩ => ⟨S32768x32768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x32768, .f32⟩
  | .hbm, ⟨9, _⟩ => ⟨S32768x32768, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S32768x32768, .f32⟩
  | .hbm, ⟨14, _⟩ => ⟨S32768x32768, .f32⟩
  | .hbm, ⟨15, _⟩ => ⟨S32768x32768, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x32768, .f32⟩
  | .hbm, ⟨20, _⟩ => ⟨S32768x32768, .f32⟩
  | .hbm, ⟨21, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Prog.lean ====
/-
  The kernel's body as a short program. The printed body is one straight text of eight hops: the hops differ in the
  slots they name and in which waits and signals they hold, never in shape. Here a hop is written once, over its
  number, and `body_eq` says the printed body is the chain of the eight.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

set_option synthInstance.maxSize 4096

noncomputable section

namespace Cert.Proof

open Cert.KernelIdeal Cert.KernelIdeal.Gen

open Idealize.ShloMosaic Idealize.SL.Sem
open Idealize.ShloMosaic.TcCoe

variable {F : FTy → Type} [FloatOps F]

/-! ### Slots and semaphores -/

/-- The two rotating buffers: `true` is the one that travels to the right. -/
def buf : Bool → Memref sig .tc .vmem S3x2x2048x256 .bf16
  | true => Memref.whole cc0_scratch1
  | false => Memref.whole cc0_scratch2

theorem buf_whole : ∀ σ, (buf σ).IsWhole
  | true => Memref.isWhole_whole _
  | false => Memref.isWhole_whole _

/-- The send semaphores of a direction: `false` is `K`'s, `true` is `V`'s. -/
def sSems : Bool → Bool → DmaSems sig S3
  | true, false => cc0_scratch4
  | true, true => cc0_scratch6
  | false, false => cc0_scratch8
  | false, true => cc0_scratch10

/-- The receive semaphores of a direction. -/
def rSems : Bool → Bool → DmaSems sig S3
  | true, false => cc0_scratch5
  | true, true => cc0_scratch7
  | false, false => cc0_scratch9
  | false, true => cc0_scratch11

/-- The semaphore that tells the sender of a direction that a slot is free again. -/
def ready : Bool → Sems sig S_
  | true => cc0_scratch12
  | false => cc0_scratch13

/-- Where a slot's `K` (`false`) or `V` (`true`) lies. -/
def slotOff (s : Fin 3) (kv : Bool) : Fin 4 → Nat := ![s.val, (bif kv then 1 else 0), 0, 0]

theorem slot_inb (s : Fin 3) (kv : Bool) (a : Fin 4) :
    slotOff s kv a + S1x1x2048x256.size a ≤ S3x2x2048x256.size a :=
  (by decide : ∀ (s : Fin 3) (kv : Bool) (a : Fin 4), slotOff s kv a + S1x1x2048x256.size a ≤ S3x2x2048x256.size a) s kv a

/-- A slot's rectangle in its buffer. -/
abbrev slotR (s : Fin 3) (kv : Bool) : Rect S3x2x2048x256 :=
  Rect.unit (s := S3x2x2048x256) (slotOff s kv) S1x1x2048x256.size (slot_inb s kv)

/-- A slot as the transfers see it. -/
def slot (σ kv : Bool) (s : Fin 3) : Memref sig .tc .vmem S2048x256 .bf16 :=
  ((buf σ).slice (slotR s kv) (fun _ => rfl)).squeeze S2048x256 squeezes_S1x1x2048x256_S2048x256

theorem sem_inb (s : Fin 3) (a : Fin 1) : (![s.val] : Fin 1 → Nat) a + S1.size a ≤ S3.size a :=
  (by decide : ∀ (s : Fin 3) (a : Fin 1), (![s.val] : Fin 1 → Nat) a + S1.size a ≤ S3.size a) s a

/-- One semaphore of an array of three. -/
def sem1 (A : DmaSems sig S3) (s : Fin 3) : DmaSem sig :=
  ((A.slice (Rect.unit (s := S3) ![s.val] S1.size (sem_inb s))).squeeze S_ squeezes_S1_S_).sem

theorem slot_words (σ kv : Bool) (s : Fin 3) : (slot σ kv s).view.WordExact := by
  unfold slot
  fin_cases s <;> cases kv
  · exact ((buf_whole σ).wordExact_slice rfl _ wordsbf16_S3x2x2048x256_S1x1x2048x256_0_0_0_0).reshape _ _
  · exact ((buf_whole σ).wordExact_slice rfl _ wordsbf16_S3x2x2048x256_S1x1x2048x256_0_1_0_0).reshape _ _
  · exact ((buf_whole σ).wordExact_slice rfl _ wordsbf16_S3x2x2048x256_S1x1x2048x256_1_0_0_0).reshape _ _
  · exact ((buf_whole σ).wordExact_slice rfl _ wordsbf16_S3x2x2048x256_S1x1x2048x256_1_1_0_0).reshape _ _
  · exact ((buf_whole σ).wordExact_slice rfl _ wordsbf16_S3x2x2048x256_S1x1x2048x256_2_0_0_0).reshape _ _
  · exact ((buf_whole σ).wordExact_slice rfl _ wordsbf16_S3x2x2048x256_S1x1x2048x256_2_1_0_0).reshape _ _

theorem slot_packed (σ kv : Bool) : ((buf σ).access (slotR 0 kv)).StoreExact Finset.univ := by
  cases kv
  · exact (buf_whole σ).storeExact_slice rfl _ packedbf16_S3x2x2048x256_S1x1x2048x256_0_0_0_0
  · exact (buf_whole σ).storeExact_slice rfl _ packedbf16_S3x2x2048x256_S1x1x2048x256_0_1_0_0

/-! ### The pieces -/

/-- A program of one core. -/
abbrev P (F : FTy → Type) [FloatOps F] (α : Type) := Prog (TpuEff nD τ sig (Elt F) Λ₀ .tc) α

/-- The operands' and the result's staging buffers, and the two local scratch buffers. -/
abbrev qM : Memref sig .tc .vmem S4096x256 .f32 := Memref.whole cc0_stg0_0
abbrev kM : Memref sig .tc .vmem S4096x256 .f32 := Memref.whole cc0_stg1_0
abbrev vM : Memref sig .tc .vmem S4096x256 .f32 := Memref.whole cc0_stg2_0
abbrev oM : Memref sig .tc .vmem S4096x256 .f32 := Memref.whole cc0_stg3_0
abbrev qbM : Memref sig .tc .vmem S4096x256 .bf16 := Memref.whole cc0_scratch0
abbrev lM : Memref sig .tc .vmem S4096x1 .f32 := Memref.whole cc0_scratch3

/-- The transfer of one slot's `K` or `V` to device `d`'s slot. -/
def sendP (σ kv : Bool) (s s' : Fin 3) (d : Dev nD) : P F PUnit :=
  Prog.lift (.enqueueDma (slot σ kv s) (.remote (Dev.tc d) (slot σ kv s') (.dma (sem1 (sSems σ kv) s)))
    (.dma (sem1 (rSems σ kv) s')) (slot_words σ kv s) (slot_words σ kv s') ⟨⟨rfl, Or.inl rfl⟩, trivial⟩)

/-- The wait that a transfer has read its source. -/
def waitSendP (σ kv : Bool) (s s' : Fin 3) : P F PUnit :=
  Prog.lift (.waitDma2 (sem1 (sSems σ kv) s) (slot σ kv s') (slot σ kv s) (slot_words σ kv s') (slot_words σ kv s))

/-- The wait that a slot has been written. -/
def waitRecvP (σ kv : Bool) (s : Fin 3) : P F PUnit :=
  Prog.lift (.waitDma2 (sem1 (rSems σ kv) s) (slot σ kv s) (slot σ kv s) (slot_words σ kv s) (slot_words σ kv s))

/-- The barrier: each neighbour is signalled, and both neighbours' signals awaited. -/
def barrierP (d d' : Dev nD) : P F PUnit := do
  semSignalWord d (SemArray.scalar (sig.barrier 0 rfl) : Sems sig S_).sem 1#32
  semSignalWord d' (SemArray.scalar (sig.barrier 0 rfl) : Sems sig S_).sem 1#32
  semWaitWord (SemArray.scalar (sig.barrier 0 rfl) : Sems sig S_).sem 2#32

/-- A half block, rounded into slot 0. -/
def fillP (x : Memref sig .tc .vmem S4096x256 .f32) (off : Fin 2 → Nat)
    (inb : ∀ a, off a + S2048x256.size a ≤ S4096x256.size a) (σ kv : Bool) : P F PUnit := do
  let v46 : Vec F S2048x256 .f32 ← Prog.lift (.load x (Rect.unit (s := S4096x256) off S2048x256.size inb).toLoadRect (View.loadsAt_vmem h_S2048x256))
  let v49 : Vec F S1x1x2048x256 .bf16 ← Prog.lift (.load (buf σ) (slotR 0 kv).toLoadRect (View.loadsAt_vmem h_S1x1x2048x256))
  Prog.lift (.store (buf σ) (slotR 0 kv) (k0_pay43 v46) Finset.univ (View.stores_vmem h_S1x1x2048x256 (slot_packed σ kv) (fun _ => rfl)) (.inl rfl))

/-- The query block rounded, slot 0 filled, the two accumulators cleared. -/
def setupP : P F PUnit := do
  let v40 : Vec F S4096x256 .f32 ← Prog.lift (.load qM (Rect.unit (s := S4096x256) ![0, 0] S4096x256.size inb_S4096x256_S4096x256_0_0).toLoadRect (View.loadsAt_vmem h_S4096x256))
  let v43 : Vec F S4096x256 .bf16 ← Prog.lift (.load qbM (Rect.unit (s := S4096x256) ![0, 0] S4096x256.size inb_S4096x256_S4096x256_0_0).toLoadRect (View.loadsAt_vmem h_S4096x256))
  Prog.lift (.store qbM (Rect.unit (s := S4096x256) ![0, 0] S4096x256.size inb_S4096x256_S4096x256_0_0) (k0_pay42 v40) Finset.univ (View.stores_vmem h_S4096x256 ((Memref.isWhole_whole _).storeExact_slice rfl _ packedbf16_S4096x256_S4096x256_0_0) (fun _ => rfl)) (.inl rfl))
  fillP kM ![0, 0] inb_S4096x256_S2048x256_0_0 true false
  fillP vM ![0, 0] inb_S4096x256_S2048x256_0_0 true true
  fillP kM ![2048, 0] inb_S4096x256_S2048x256_2048_0 false false
  fillP vM ![2048, 0] inb_S4096x256_S2048x256_2048_0 false true
  let v71 : Vec F S4096x256 .f32 ← Prog.lift (.load oM (Rect.unit (s := S4096x256) ![0, 0] S4096x256.size inb_S4096x256_S4096x256_0_0).toLoadRect (View.loadsAt_vmem h_S4096x256))
  Prog.lift (.store oM (Rect.unit (s := S4096x256) ![0, 0] S4096x256.size inb_S4096x256_S4096x256_0_0) (k0_pay48 (F := F)) Finset.univ (View.stores_vmem_bits_univ h_S4096x256 rfl) (.inl rfl))
  let v73 : Vec F S4096x1 .f32 ← Prog.lift (.load lM (Rect.unit (s := S4096x1) ![0, 0] S4096x1.size inb_S4096x1_S4096x1_0_0).toLoadRect (View.loadsAt_vmem h_S4096x1))
  Prog.lift (.store lM (Rect.unit (s := S4096x1) ![0, 0] S4096x1.size inb_S4096x1_S4096x1_0_0) (k0_pay49 (F := F)) Finset.univ (View.stores_vmem_bits_univ h_S4096x1 rfl) (.inl rfl))

/-- The rows of one trip, in the output block and in the column of denominators. -/
abbrev rowsR (t : Fin k0_t1_loop.trips) : Rect S4096x256 :=
  Rect.unit (s := S4096x256) (k0_off1 t) S512x256.size (k0_off1_inb t)
abbrev colR (t : Fin k0_t1_loop.trips) : Rect S4096x1 :=
  Rect.unit (s := S4096x1) (k0_off2 t) S512x1.size (k0_off2_inb t)

/-- One trip of a hop's loop: 512 query rows against the two halves in slot `s`. -/
def tripP (s : Fin 3) (t : Fin k0_t1_loop.trips) (_ : Unit) : P F Unit := do
  let v779 : Vec F S512x256 .bf16 ← Prog.lift (.load qbM (rowsR t).toLoadRect (View.loadsAt_vmem h_S512x256))
  let v781 : Vec F S512x256 .f32 ← Prog.lift (.load oM (rowsR t).toLoadRect (View.loadsAt_vmem h_S512x256))
  let v784 : Vec F S512x1 .f32 ← Prog.lift (.load lM (colR t).toLoadRect (View.loadsAt_vmem h_S512x1))
  let v785 : Vec F S1x1x2048x256 .bf16 ← Prog.lift (.load (buf true) (slotR s false).toLoadRect (View.loadsAt_vmem h_S1x1x2048x256))
  let v795 : Vec F S1x1x2048x256 .bf16 ← Prog.lift (.load (buf true) (slotR s true).toLoadRect (View.loadsAt_vmem h_S1x1x2048x256))
  let v799 : Vec F S1x1x2048x256 .bf16 ← Prog.lift (.load (buf false) (slotR s false).toLoadRect (View.loadsAt_vmem h_S1x1x2048x256))
  let v809 : Vec F S1x1x2048x256 .bf16 ← Prog.lift (.load (buf false) (slotR s true).toLoadRect (View.loadsAt_vmem h_S1x1x2048x256))
  let v814 : Vec F S512x256 .f32 ← Prog.lift (.load oM (rowsR t).toLoadRect (View.loadsAt_vmem h_S512x256))
  Prog.lift (.store oM (rowsR t) (k0_pay50 (k0_pay3 v779 v781 v785 v795) (k0_pay6 v779 v799) v809) Finset.univ (View.stores_vmem_bits_univ h_S512x256 rfl) (.inl rfl))
  let v816 : Vec F S512x1 .f32 ← Prog.lift (.load lM (colR t).toLoadRect (View.loadsAt_vmem h_S512x1))
  Prog.lift (.store lM (colR t) (k0_pay51 (k0_pay5 v779 v784 v785 v799)) Finset.univ (View.stores_vmem_bits_univ h_S512x1 rfl) (.inl rfl))

/-- A hop's loop. -/
def loopP (s : Fin 3) : P F PUnit := Scf.Loop.for k0_t1_loop k0_t1_ok ⟨⟩ (tripP s)

/-- The waits that the neighbours' slots are free again. -/
def readyP : P F PUnit := do
  semWaitWord (ready true).sem 1#32
  semWaitWord (ready false).sem 1#32

/-- The signals that a slot is free again: the right-going buffer's to the left neighbour `d`. -/
def freeP (d d' : Dev nD) : P F PUnit := do
  semSignalWord d (ready true).sem 1#32
  semSignalWord d' (ready false).sem 1#32

/-- Slot `h` modulo three. -/
def sl (h : ℕ) : Fin 3 := ⟨h % 3, Nat.mod_lt _ (by decide)⟩

/-- The four transfers of a hop, each of `V`'s after the wait that its source has arrived (`w`). -/
def sendsP (s s' : Fin 3) (w : P F PUnit) (d1 d2 d3 d4 : Dev nD) : P F PUnit := do
  sendP true false s s' d1
  sendP false false s s' d2
  w
  sendP true true s s' d3
  sendP false true s s' d4

/-- The waits for the two arriving `V`s. -/
def recvVP (s : Fin 3) : P F PUnit := do
  waitRecvP true true s
  waitRecvP false true s

/-- The waits at a hop's end: its four transfers have read their sources, and the next `K`s have arrived. -/
def settleP (s s' : Fin 3) : P F PUnit := do
  waitSendP true false s s'
  waitSendP false false s s'
  waitSendP true true s s'
  waitSendP false true s s'
  waitRecvP true false s'
  waitRecvP false false s'

/-- One trip of the closing division: 512 rows. -/
def normTripP (t : Fin k0_t9_loop.trips) (_ : Unit) : P F Unit := do
  let v779 : Vec F S512x256 .f32 ← Prog.lift (.load oM (Rect.unit (s := S4096x256) (k0_off17 t) S512x256.size (k0_off17_inb t)).toLoadRect (View.loadsAt_vmem h_S512x256))
  let v782 : Vec F S512x1 .f32 ← Prog.lift (.load lM (Rect.unit (s := S4096x1) (k0_off18 t) S512x1.size (k0_off18_inb t)).toLoadRect (View.loadsAt_vmem h_S512x1))
  let _v785 : Vec F S512x256 .f32 ← Prog.lift (.load oM (Rect.unit (s := S4096x256) (k0_off17 t) S512x256.size (k0_off17_inb t)).toLoadRect (View.loadsAt_vmem h_S512x256))
  Prog.lift (.store oM (Rect.unit (s := S4096x256) (k0_off17 t) S512x256.size (k0_off17_inb t)) (k0_pay1 v779 v782) Finset.univ (View.stores_vmem_bits_univ h_S512x256 rfl) (.inl rfl))

/-- The closing division. -/
def normP : P F PUnit := Scf.Loop.for k0_t9_loop k0_t9_ok ⟨⟩ normTripP

/-- A hop before the last: `r` waits for free slots, `w` for the arriving `V`s, `f` signals a free slot. -/
def hopP (h : ℕ) (r w f : P F PUnit) (d1 d2 d3 d4 : Dev nD) : P F PUnit := do
  r
  sendsP (sl h) (sl (h + 1)) w d1 d2 d3 d4
  loopP (sl h)
  settleP (sl h) (sl (h + 1))
  f

/-- The eight hops and the closing division. -/
def hopsP (c : Dev nD) : P F PUnit := do
  hopP 0 (pure ⟨⟩) (pure ⟨⟩) (freeP ⟨k0_dev7 c, k0_dev7_lt c⟩ ⟨k0_dev8 c, k0_dev8_lt c⟩)
    ⟨k0_dev3 c, k0_dev3_lt c⟩ ⟨k0_dev4 c, k0_dev4_lt c⟩ ⟨k0_dev5 c, k0_dev5_lt c⟩ ⟨k0_dev6 c, k0_dev6_lt c⟩
  hopP 1 (pure ⟨⟩) (recvVP (sl 1)) (freeP ⟨k0_dev13 c, k0_dev13_lt c⟩ ⟨k0_dev14 c, k0_dev14_lt c⟩)
    ⟨k0_dev9 c, k0_dev9_lt c⟩ ⟨k0_dev10 c, k0_dev10_lt c⟩ ⟨k0_dev11 c, k0_dev11_lt c⟩ ⟨k0_dev12 c, k0_dev12_lt c⟩
  hopP 2 readyP (recvVP (sl 2)) (freeP ⟨k0_dev19 c, k0_dev19_lt c⟩ ⟨k0_dev20 c, k0_dev20_lt c⟩)
    ⟨k0_dev15 c, k0_dev15_lt c⟩ ⟨k0_dev16 c, k0_dev16_lt c⟩ ⟨k0_dev17 c, k0_dev17_lt c⟩ ⟨k0_dev18 c, k0_dev18_lt c⟩
  hopP 3 readyP (recvVP (sl 3)) (freeP ⟨k0_dev25 c, k0_dev25_lt c⟩ ⟨k0_dev26 c, k0_dev26_lt c⟩)
    ⟨k0_dev21 c, k0_dev21_lt c⟩ ⟨k0_dev22 c, k0_dev22_lt c⟩ ⟨k0_dev23 c, k0_dev23_lt c⟩ ⟨k0_dev24 c, k0_dev24_lt c⟩
  hopP 4 readyP (recvVP (sl 4)) (freeP ⟨k0_dev31 c, k0_dev31_lt c⟩ ⟨k0_dev32 c, k0_dev32_lt c⟩)
    ⟨k0_dev27 c, k0_dev27_lt c⟩ ⟨k0_dev28 c, k0_dev28_lt c⟩ ⟨k0_dev29 c, k0_dev29_lt c⟩ ⟨k0_dev30 c, k0_dev30_lt c⟩
  hopP 5 readyP (recvVP (sl 5)) (pure ⟨⟩)
    ⟨k0_dev33 c, k0_dev33_lt c⟩ ⟨k0_dev34 c, k0_dev34_lt c⟩ ⟨k0_dev35 c, k0_dev35_lt c⟩ ⟨k0_dev36 c, k0_dev36_lt c⟩
  hopP 6 readyP (recvVP (sl 6)) (pure ⟨⟩)
    ⟨k0_dev37 c, k0_dev37_lt c⟩ ⟨k0_dev38 c, k0_dev38_lt c⟩ ⟨k0_dev39 c, k0_dev39_lt c⟩ ⟨k0_dev40 c, k0_dev40_lt c⟩
  recvVP (sl 7)
  loopP (sl 7)
  normP
  pure ⟨⟩

/-- The whole body. -/
def bodyP : P F PUnit := do
  let c : Dev nD ← Prog.lift .deviceId
  barrierP ⟨k0_dev1 c, k0_dev1_lt c⟩ ⟨k0_dev2 c, k0_dev2_lt c⟩
  setupP
  hopsP c

/-! ### The stretches of the printed text that hold a hop's loop -/

theorem part13_eq (d0 : Dev nD) (v34 : BitVec 32) :
    k0_part13 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v34 = (do
    sendP false true 0 1 ⟨k0_dev6 d0, k0_dev6_lt d0⟩
    Scf.Loop.for k0_t1_loop k0_t1_ok ⟨⟩ (tripP 0)
    waitSendP true false 0 1
    waitSendP false false 0 1
    pure ⟨⟩) := by chain_rfl

theorem part17_eq (d0 : Dev nD) (v32 : BitVec 32) (v34 : BitVec 32) :
    k0_part17 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v32 v34 = (do
    sendP true true 1 2 ⟨k0_dev11 d0, k0_dev11_lt d0⟩
    sendP false true 1 2 ⟨k0_dev12 d0, k0_dev12_lt d0⟩
    Scf.Loop.for k0_t1_loop k0_t1_ok ⟨⟩ (tripP 1)
    pure ⟨⟩) := by chain_rfl

theorem part22_eq (d0 : Dev nD) (v308 : BitVec 32) :
    k0_part22 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v308 = (do
    sendP false true 2 0 ⟨k0_dev18 d0, k0_dev18_lt d0⟩
    Scf.Loop.for k0_t1_loop k0_t1_ok ⟨⟩ (tripP 2)
    waitSendP true false 2 0
    waitSendP false false 2 0
    pure ⟨⟩) := by chain_rfl

theorem part26_eq (d0 : Dev nD) (v32 : BitVec 32) (v34 : BitVec 32) :
    k0_part26 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v32 v34 = (do
    waitRecvP false true 0
    sendP true true 0 1 ⟨k0_dev23 d0, k0_dev23_lt d0⟩
    sendP false true 0 1 ⟨k0_dev24 d0, k0_dev24_lt d0⟩
    Scf.Loop.for k0_t1_loop k0_t1_ok ⟨⟩ (tripP 0)
    pure ⟨⟩) := by chain_rfl

theorem part31_eq (d0 : Dev nD) (v34 : BitVec 32) :
    k0_part31 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v34 = (do
    sendP false true 1 2 ⟨k0_dev30 d0, k0_dev30_lt d0⟩
    Scf.Loop.for k0_t1_loop k0_t1_ok ⟨⟩ (tripP 1)
    waitSendP true false 1 2
    pure ⟨⟩) := by chain_rfl

theorem part35_eq (d0 : Dev nD) (v32 : BitVec 32) (v34 : BitVec 32) :
    k0_part35 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 v32 v34 = (do
    waitRecvP false true 2
    sendP true true 2 0 ⟨k0_dev35 d0, k0_dev35_lt d0⟩
    sendP false true 2 0 ⟨k0_dev36 d0, k0_dev36_lt d0⟩
    Scf.Loop.for k0_t1_loop k0_t1_ok ⟨⟩ (tripP 2)
    pure ⟨⟩) := by chain_rfl

theorem part40_eq (d0 : Dev nD) :
    k0_part40 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 d0 = (do
    sendP false true 0 1 ⟨k0_dev40 d0, k0_dev40_lt d0⟩
    Scf.Loop.for k0_t1_loop k0_t1_ok ⟨⟩ (tripP 0)
    waitSendP true false 0 1
    waitSendP false false 0 1
    pure ⟨⟩) := by chain_rfl

theorem part42_eq (v32 : BitVec 32) (v34 : BitVec 32) :
    k0_part42 (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 v32 v34 = (do
    waitRecvP false false 1
    waitRecvP true true 1
    waitRecvP false true 1
    Scf.Loop.for k0_t1_loop k0_t1_ok ⟨⟩ (tripP 1)
    pure 0#32) := by chain_rfl

set_option maxRecDepth 65536 in
/-- The printed body is the chain of its hops. -/
theorem body_eq : bodyAt0 (F := F) t0_0 = bodyP := by
  show cc0_body (F := F) qM (hstage0_0 0) kM (hstage0_1 0) vM (hstage0_2 0) oM (hstage0_3 0) qbM (Memref.isWhole_whole _) (Memref.whole cc0_scratch1) (Memref.isWhole_whole _) (Memref.whole cc0_scratch2) (Memref.isWhole_whole _) lM (Memref.isWhole_whole _) cc0_scratch4 cc0_scratch5 cc0_scratch6 cc0_scratch7 cc0_scratch8 cc0_scratch9 cc0_scratch10 cc0_scratch11 cc0_scratch12 cc0_scratch13 = _
  rw [cc0_body_eq_skeleton]
  unfold cc0_body_skel bodyP hopsP hopP sendsP recvVP readyP freeP settleP loopP normP
  simp only [part13_eq, part17_eq, part22_eq, part26_eq, part31_eq, part35_eq, part40_eq, part42_eq,
    bind_assoc, pure_bind]
  chain_rfl

end Cert.Proof

end
-- ==== Proof.Common.lean ====
/-
  The protocol of the ring: the two directions, the semaphores as cells with rounds, what each signal and transfer hands
  over, and what each device owes its neighbours. Side `true` is the buffer that travels to the right, side `false` the one
  that travels to the left; `K`'s half of a slot is `false`, `V`'s half is `true`.
-/
module

public import proofs.«01_k».proof.Proof.Prog
public import Idealize.ShloMosaic.Lib.Release
public import Idealize.ShloMosaic.Lib.MemrefSat
public import Idealize.ShloMosaic.Lib.Pipeline.TalkSites
public import Idealize.ShloMosaic.Lib.Pipeline.Kit
public import Mathlib.Tactic.DeriveFintype

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The resource algebra -/

/-- A slot's keys: the device that reads it, its side, and the hop that writes it. -/
abbrev Key : Type := Dev nD × Bool × Fin 7
abbrev UB : Type := URounds (GSem nD τ sig) ℕ
abbrev UU : Type := UR sig nD τ × (UB × Release.USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Release.USlots Key)).trans embR
abbrev EL : Emb (Release.USlots Key) (MT nD τ sig ℕ (Elt F) ℕ UU ℕ) := (Emb.inr : Emb (Release.USlots Key) (UB × Release.USlots Key)).trans embR

/-! ### The ring -/

/-- The device a side sends to, -/
def dst : Bool → Dev nD → Dev nD
  | true, c => ![1, 2, 3, 7, 0, 4, 5, 6] c
  | false, c => ![4, 0, 1, 2, 5, 6, 7, 3] c
/-- and the one it receives from. -/
def src (σ : Bool) (c : Dev nD) : Dev nD := dst (!σ) c

theorem src_dst (σ : Bool) (c : Dev nD) : src σ (dst σ c) = c := by revert c; cases σ <;> decide
theorem dst_src (σ : Bool) (c : Dev nD) : dst σ (src σ c) = c := by revert c; cases σ <;> decide
theorem dst_not (σ : Bool) (c : Dev nD) : dst (!σ) c = src σ c := rfl

/-- The ring as a permutation of the devices. -/
def ring (σ : Bool) : Dev nD ≃ Dev nD := ⟨dst σ, src σ, src_dst σ, dst_src σ⟩

/-- The device whose block is in a side's slot at hop `h`. -/
def orig (σ : Bool) (h : ℕ) (c : Dev nD) : Dev nD := (src σ)^[h] c

theorem orig_zero (σ : Bool) (c : Dev nD) : orig σ 0 c = c := rfl
theorem orig_dst (σ : Bool) (h : ℕ) (c : Dev nD) : orig σ (h + 1) (dst σ c) = orig σ h c := by
  unfold orig; rw [Function.iterate_succ_apply, src_dst]

/-! ### The cells -/

/-- The kernel's semaphores: the barrier, a side's ready semaphore, and the send and receive semaphores of a side's `K` or
    `V` at a slot. -/
inductive Kind
  | bar | rdy (σ : Bool) | snd (σ kv : Bool) (s : Fin 3) | rcv (σ kv : Bool) (s : Fin 3)
  deriving DecidableEq, Fintype

abbrev barS : Sem sig := (SemArray.scalar (sig.barrier 0 rfl) : Sems sig S_).sem

/-- The semaphore of a kind. -/
def semOf : Kind → SemLoc sig
  | .bar => .reg barS
  | .rdy σ => .reg (ready σ).sem
  | .snd σ kv s => .dma (sem1 (sSems σ kv) s)
  | .rcv σ kv s => .dma (sem1 (rSems σ kv) s)

theorem semOf_injective : Function.Injective semOf := by decide

/-- A device's cell of a kind. -/
abbrev cell (c : Dev nD) (k : Kind) : GSem nD τ sig := ((c : Thread nD τ), semOf k)

/-- The kind of a semaphore. -/
def kindOf : SemLoc sig → Option Kind := Function.partialInv semOf
theorem kindOf_semOf (k : Kind) : kindOf (semOf k) = some k := Function.partialInv_left semOf_injective k

/-- The cell that a hop's transfer signals at its source, -/
abbrev sndCell (c : Dev nD) (σ kv : Bool) (h : ℕ) : GSem nD τ sig := cell c (.snd σ kv (sl h))
/-- and the one it signals at its destination. -/
abbrev rcvCell (c : Dev nD) (σ kv : Bool) (h : ℕ) : GSem nD τ sig := cell c (.rcv σ kv (sl (h + 1)))
abbrev rdyCell (c : Dev nD) (σ : Bool) : GSem nD τ sig := cell c (.rdy σ)
abbrev barCell (c : Dev nD) : GSem nD τ sig := cell c .bar

/-- The units of one transfer. -/
abbrev N : ℕ := (slot true false 0).view.dmaCredit
theorem N_pos : 0 < N := View.dmaCredit_pos _ (by decide)
theorem amount_slot (σ kv : Bool) (s : Fin 3) (k : Kind) (q : DmaSem sig) (hk : semOf k = .dma q) :
    (slot σ kv s).view.amount (semOf k) = N := by rw [hk]

/-! ### The contents -/

section Proto

-- A half block of `K` or `V`, as it stands in a slot: by side, `K` or `V`, and the device it is from.
variable (B : Bool → Bool → Dev nD → Vec F S2048x256 .bf16)

/-- What the slot of a hop holds. -/
def held (c : Dev nD) (σ kv : Bool) (h : ℕ) : Vec F S2048x256 .bf16 := B σ kv (orig σ h c)

/-- A slot of a device, at some contents. -/
def anySlot (c : Dev nD) (σ kv : Bool) (s : Fin 3) : sProp 𝕄 :=
  ownsSat (c : Thread nD τ) (slot σ kv s) fullShare (fun _ => True)
/-- A slot's two halves, at some contents. -/
def anyPair (c : Dev nD) (σ : Bool) (s : Fin 3) : sProp 𝕄 := iprop(anySlot (F := F) c σ false s ∗ anySlot (F := F) c σ true s)

instance anyPair_storable (c : Dev nD) (σ : Bool) (s : Fin 3) : BI.Storable (upEmb : UEmb _ 𝕄) (anyPair (F := F) c σ s) := by
  unfold anyPair anySlot; infer_instance

/-- That device `c` has freed the slot that hop `h` writes, and that its receive cells have come to the round of that hop. -/
def fact (c : Dev nD) (σ : Bool) (h : ℕ) : sProp 𝕄 :=
  iprop((if hh : h < 7 then Release.released (EL (F := F)) (c, σ, ⟨h, hh⟩) 1 else iprop(emp))
    ∗ reached (ER (F := F)) (rcvCell c σ false h) (h / 3) ∗ reached (ER (F := F)) (rcvCell c σ true h) (h / 3))

instance fact_persistent (c : Dev nD) (σ : Bool) (h : ℕ) : BI.Persistent (fact (F := F) c σ h) := by
  unfold fact; split <;> infer_instance
instance fact_storable (c : Dev nD) (σ : Bool) (h : ℕ) : BI.Storable (upEmb : UEmb _ 𝕄) (fact (F := F) c σ h) := by
  unfold fact; split <;> infer_instance

/-- The facts of the first `n` hops. -/
def facts (c : Dev nD) (σ : Bool) (n : ℕ) : sProp 𝕄 := bigSep (Finset.range n) (fact (F := F) c σ)

instance facts_persistent (c : Dev nD) (σ : Bool) (n : ℕ) : BI.Persistent (facts (F := F) c σ n) := by unfold facts; infer_instance
instance facts_storable (c : Dev nD) (σ : Bool) (n : ℕ) : BI.Storable (upEmb : UEmb _ 𝕄) (facts (F := F) c σ n) := by
  unfold facts; infer_instance

theorem facts_elim (c : Dev nD) (σ : Bool) {n h : ℕ} (hh : h < n) : facts (F := F) c σ n ⊢ fact c σ h :=
  bigSep_elim (Finset.mem_range.mpr hh)

/-! ### The schedule -/

/-- The number of duties of a round. -/
def nDuties : Kind → ℕ → ℕ
  | .bar, r => if r = 0 then 2 else 0
  | .rdy _, r => if r = 0 then 5 else 0
  | .snd _ _ s, r => if 3 * r + s.val < 7 then 1 else 0
  | .rcv _ _ s, r => if 3 * r + (s.val + 2) % 3 < 7 then 1 else 0

/-- The units of a duty. -/
def units : Kind → ℕ
  | .bar | .rdy _ => 1
  | .snd .. | .rcv .. => N

/-- A side's number among the barrier's duties. -/
def sideNo (σ : Bool) : ℕ := bif σ then 0 else 1

/-- What a duty hands over: at the barrier and the ready cells, that the neighbour has freed its slots; at a send cell,
    the share of the source that was lent; at a receive cell, the slot filled. -/
def pay (c : Dev nD) : Kind → ℕ → ℕ → sProp 𝕄
  | .bar, _, d => if d = 0 then facts (dst true c) true 2 else facts (dst false c) false 2
  | .rdy σ, _, d => facts (dst σ c) σ (d + 3)
  | .snd σ kv s, _, _ => ownsSat (c : Thread nD τ) (slot σ kv s) fullShare.right (fun _ => True)
  | .rcv σ kv s, r, _ => owns (c : Thread nD τ) (slot σ kv s) fullShare (held B c σ kv (3 * r + (s.val + 2) % 3 + 1))

instance pay_storable (c : Dev nD) (k : Kind) (r d : ℕ) : BI.Storable (upEmb : UEmb _ 𝕄) (pay B c k r d) := by
  cases k <;> unfold pay <;> (try split) <;> infer_instance

/-- The schedule of the ring. -/
def Rd : Rounds.Schedule (GSem nD τ sig) ℕ 𝕄 where
  duties g r := match kindOf g.2 with
    | some k => Finset.range (nDuties k r)
    | none => ∅
  amount g _ _ := match kindOf g.2 with
    | some k => units k
    | none => 1
  payload g r d := match kindOf g.2 with
    | some k => pay B g.1.1 k r d
    | none => iprop(emp)
  amount_pos g r d _ := by
    split
    · rename_i k _; cases k <;> first | exact Nat.one_pos | exact N_pos
    · exact Nat.one_pos

instance Rd_payload_storable (g : GSem nD τ sig) (r d : ℕ) : BI.Storable (upEmb : UEmb _ 𝕄) ((Rd B).payload g r d) := by
  show BI.Storable upEmb (match kindOf g.2 with | some k => pay B g.1.1 k r d | none => iprop(emp))
  split <;> infer_instance

theorem duties_cell (c : Dev nD) (k : Kind) (r : ℕ) : (Rd B).duties (cell c k) r = Finset.range (nDuties k r) := by
  dsimp only [Rd]; rw [kindOf_semOf]
theorem amount_cell (c : Dev nD) (k : Kind) (r d : ℕ) : (Rd B).amount (cell c k) r d = units k := by
  dsimp only [Rd]; rw [kindOf_semOf]
theorem payload_cell (c : Dev nD) (k : Kind) (r d : ℕ) : (Rd B).payload (cell c k) r d = pay B c k r d := by
  dsimp only [Rd]; rw [kindOf_semOf]
theorem expect_cell (c : Dev nD) (k : Kind) (r : ℕ) : (Rd B).expect (cell c k) r = nDuties k r * units k := by
  unfold Schedule.expect Schedule.amountOf
  rw [duties_cell, Finset.sum_congr rfl fun d _ => amount_cell B c k r d, Finset.sum_const, Finset.card_range, smul_eq_mul]

theorem sl_val (h : ℕ) : (sl h).val = h % 3 := rfl
theorem sl_add (h : ℕ) : sl (h + 3) = sl h := Fin.ext (by simp only [sl_val]; omega)

theorem nDuties_snd (σ kv : Bool) {h : ℕ} (hh : h < 7) : nDuties (.snd σ kv (sl h)) (h / 3) = 1 :=
  if_pos (by rw [sl_val]; omega)
theorem nDuties_rcv (σ kv : Bool) {h : ℕ} (hh : h < 7) : nDuties (.rcv σ kv (sl (h + 1))) (h / 3) = 1 :=
  if_pos (by rw [sl_val]; omega)
theorem nDuties_snd_end (σ kv : Bool) {h : ℕ} (hh : 7 ≤ h) : ∀ r, h / 3 ≤ r → nDuties (.snd σ kv (sl h)) r = 0 := fun r hr =>
  if_neg (by rw [sl_val]; omega)
theorem nDuties_rcv_end (σ kv : Bool) {h : ℕ} (hh : 7 ≤ h) : ∀ r, h / 3 ≤ r → nDuties (.rcv σ kv (sl (h + 1))) r = 0 := fun r hr =>
  if_neg (by rw [sl_val]; omega)
theorem pay_rcv (c : Dev nD) (σ kv : Bool) (h d : ℕ) :
    pay B c (.rcv σ kv (sl (h + 1))) (h / 3) d = owns (c : Thread nD τ) (slot σ kv (sl (h + 1))) fullShare (held B c σ kv (h + 1)) := by
  show owns _ _ _ (held B c σ kv (3 * (h / 3) + ((sl (h + 1)).val + 2) % 3 + 1)) = _
  rw [show 3 * (h / 3) + ((sl (h + 1)).val + 2) % 3 + 1 = h + 1 by rw [sl_val]; omega]

end Proto

/-! ### What is owed, and when it is paid -/

abbrev Due : Type := TalkSites.Pay nD τ sig

/-- The transfers of hop `h`, in the order they are started, by the cells they fill: each owes at its own index, the later the
    larger. -/
def kPay (c : Dev nD) (σ : Bool) (h : ℕ) : Due := (rcvCell (dst σ c) σ false h, 10 * h + 2, N)
@[inherit_doc kPay] def vPay (c : Dev nD) (σ : Bool) (h : ℕ) : Due := (rcvCell (dst σ c) σ true h, 10 * h + 4, N)
/-- The signal of hop `h` that a slot is free. -/
def gPay (c : Dev nD) (σ : Bool) (h : ℕ) : Due := (rdyCell (src σ c) σ, 10 * h + 8, 1)
/-- The barrier's signal to the device a side receives from. -/
def bPay (c : Dev nD) (σ : Bool) : Due := (barCell (src σ c), 1, 1)

/-- The signals of hop `h`. -/
def gPays (c : Dev nD) (h : ℕ) : List Due := if h < 5 then [gPay c true h, gPay c false h] else []

/-- What a device owes before hop `7 - n`. -/
def paysLeft (c : Dev nD) : ℕ → List Due
  | 0 => []
  | n + 1 => kPay c true (6 - n) :: kPay c false (6 - n) :: vPay c true (6 - n) :: vPay c false (6 - n) :: (gPays c (6 - n) ++ paysLeft c n)

/-- What a device owes before hop `h`. -/
def paysFrom (c : Dev nD) (h : ℕ) : List Due := paysLeft c (7 - h)

theorem paysFrom_hop (c : Dev nD) {h : ℕ} (hh : h < 7) :
    paysFrom c h = kPay c true h :: kPay c false h :: vPay c true h :: vPay c false h :: (gPays c h ++ paysFrom c (h + 1)) := by
  unfold paysFrom
  rw [show 7 - h = (7 - (h + 1)) + 1 by omega, paysLeft, show 6 - (7 - (h + 1)) = h by omega]
theorem paysFrom_end (c : Dev nD) {h : ℕ} (hh : 7 ≤ h) : paysFrom c h = [] := by
  unfold paysFrom; rw [show 7 - h = 0 by omega]; rfl

/-- Every payment of a list is to a TensorCore's cell, at an index above `i`. -/
def Below (i : ℕ) (l : List Due) : Prop := ∀ x ∈ l, x.1.1.2 = .tc ∧ i < x.2.1 ∧ x.2.1 < 100

theorem Below.nil (i : ℕ) : Below i [] := fun _ h => nomatch h
theorem Below.cons {i : ℕ} {x : Due} {l : List Due} (hx : x.1.1.2 = .tc ∧ i < x.2.1 ∧ x.2.1 < 100) (hl : Below i l) : Below i (x :: l) :=
  fun y hy => by rcases List.mem_cons.mp hy with rfl | hy; exacts [hx, hl y hy]
theorem Below.append {i : ℕ} {l l' : List Due} (h : Below i l) (h' : Below i l') : Below i (l ++ l') :=
  fun y hy => (List.mem_append.mp hy).elim (h y) (h' y)
theorem Below.mono {i j : ℕ} (hij : i ≤ j) {l : List Due} (h : Below j l) : Below i l :=
  fun y hy => ⟨(h y hy).1, lt_of_le_of_lt hij (h y hy).2.1, (h y hy).2.2⟩

theorem below_kPay (c : Dev nD) (σ : Bool) {i h : ℕ} (hh : h < 7) (hi : i < 10 * h + 2) :
    (kPay c σ h).1.1.2 = .tc ∧ i < (kPay c σ h).2.1 ∧ (kPay c σ h).2.1 < 100 := ⟨rfl, hi, by show 10 * h + 2 < 100; omega⟩
theorem below_vPay (c : Dev nD) (σ : Bool) {i h : ℕ} (hh : h < 7) (hi : i < 10 * h + 4) :
    (vPay c σ h).1.1.2 = .tc ∧ i < (vPay c σ h).2.1 ∧ (vPay c σ h).2.1 < 100 := ⟨rfl, hi, by show 10 * h + 4 < 100; omega⟩
theorem below_gPay (c : Dev nD) (σ : Bool) {i h : ℕ} (hh : h < 7) (hi : i < 10 * h + 8) :
    (gPay c σ h).1.1.2 = .tc ∧ i < (gPay c σ h).2.1 ∧ (gPay c σ h).2.1 < 100 := ⟨rfl, hi, by show 10 * h + 8 < 100; omega⟩
theorem below_gPays (c : Dev nD) {i h : ℕ} (hi : i < 10 * h + 8) : Below i (gPays c h) := by
  unfold gPays; split
  · exact .cons (below_gPay c _ (by omega) hi) (.cons (below_gPay c _ (by omega) hi) (.nil i))
  · exact .nil i

theorem below_paysLeft (c : Dev nD) (n : ℕ) (hn : n ≤ 7) : ∀ i, i < 10 * (7 - n) + 2 → Below i (paysLeft c n) := by
  induction n with
  | zero => exact fun i _ => .nil i
  | succ n ih =>
    intro i hi
    exact .cons (below_kPay c _ (by omega) (by omega)) (.cons (below_kPay c _ (by omega) (by omega))
      (.cons (below_vPay c _ (by omega) (by omega)) (.cons (below_vPay c _ (by omega) (by omega))
        ((below_gPays c (by omega)).append (ih (by omega) i (by omega))))))

/-- Before hop `h` all that is owed is at the index of its first transfer or above. -/
theorem below_paysFrom (c : Dev nD) {i h : ℕ} (hi : i < 10 * h + 2) : Below i (paysFrom c h) := by
  rcases Nat.lt_or_ge h 7 with hh | hh
  · exact below_paysLeft c (7 - h) (by omega) i (by omega)
  · rw [paysFrom_end c hh]; exact .nil i

end Cert.Proof

end
-- ==== Proof.Ops.lean ====
/-
  One rule per kind of operation of the body, over the side, the half and the hop.
-/
module

public import proofs.«01_k».proof.Proof.Common

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

abbrev 𝒱₀ : Variants := Variants.none

/-- The weakest precondition of a program on a device's core. -/
abbrev wpc (c : Dev nD) {α : Type} (p : P F α) (Q : α → sProp 𝕄) : sProp 𝕄 :=
  wp frame (wpE (defs₀ (F := F)) 𝒱₀ (c : Thread nD τ) none) Set.univ p Q

/-! ### What every device knows -/

/-- The names of the cells' and the slots' invariants. -/
structure Names where
  κ : Dev nD → Kind → ℕ
  ι : Key → ℕ

variable (B : Bool → Bool → Dev nD → Vec F S2048x256 .bf16) (nm : Names)

/-- The invariants of all cells and slots, and the levels. -/
def recs : sProp 𝕄 :=
  iprop((bigSep Finset.univ fun p : Dev nD × Kind => cellInv ER (Rd B) (nm.κ p.1 p.2) (cell p.1 p.2))
    ∗ (bigSep Finset.univ fun k : Key => Release.slotInv EL (nm.ι k) k (anyPair (F := F) k.1 k.2.1 (sl (k.2.2.val + 1))))
    ∗ levAts (L 100) lv)

instance recs_persistent : BI.Persistent (recs B nm) := by unfold recs; infer_instance

theorem recs_cell (c : Dev nD) (k : Kind) : recs B nm ⊢ cellInv ER (Rd B) (nm.κ c k) (cell c k) := by
  have h : recs B nm ⊢ (bigSep Finset.univ fun p : Dev nD × Kind => cellInv ER (Rd B) (nm.κ p.1 p.2) (cell p.1 p.2) : sProp 𝕄) := by
    unfold recs; iintro ⟨H, -, -⟩; iexact H
  exact h.trans (bigSep_elim (Finset.mem_univ (c, k)))
theorem recs_slot (k : Key) : recs B nm ⊢ Release.slotInv EL (nm.ι k) k (anyPair (F := F) k.1 k.2.1 (sl (k.2.2.val + 1))) := by
  have h : recs B nm ⊢ (bigSep Finset.univ fun k : Key => Release.slotInv EL (nm.ι k) k (anyPair (F := F) k.1 k.2.1 (sl (k.2.2.val + 1))) : sProp 𝕄) := by
    unfold recs; iintro ⟨-, H, -⟩; iexact H
  exact h.trans (bigSep_elim (Finset.mem_univ k))
theorem recs_lev : recs B nm ⊢ (levAts (L 100) lv : sProp 𝕄) := by
  unfold recs; iintro ⟨-, -, H⟩; iexact H

/-- A wait at an index below all that is owed may be made. -/
theorem recs_mayWait (c : Dev nD) (sm : SemLoc sig) {i : ℕ} (hi : i < 100) {l : List Due} (hl : Below i l) :
    recs B nm ⊢ MayWait (c : Thread nD τ) sm i (tallyL l) :=
  (recs_lev B nm).trans (mayWait_of hi c sm _ fun g k hg => by
    obtain ⟨x, hx, rfl, rfl⟩ := tallyL_pos hg
    exact ⟨mem_L' (hl x hx).1 (hl x hx).2.2, (hl x hx).2.1⟩)

/-! ### What a device holds -/

/-- What a device owes. -/
def ow (c : Dev nD) (l : List Due) : sProp 𝕄 := iprop(∃ W, owes (c : Thread nD τ) (tallyL l) W)

/-- The position at a send cell, before hop `h`'s transfer; -/
def posS (c : Dev nD) (σ kv : Bool) (h : ℕ) : sProp 𝕄 :=
  iprop(atPos (ER (F := F)) (sndCell c σ kv h) (h / 3) ∅ 0 ∗ reached (ER (F := F)) (sndCell c σ kv h) (h / 3))
/-- the position at a receive cell; -/
def posR (c : Dev nD) (σ kv : Bool) (h : ℕ) : sProp 𝕄 :=
  iprop(atPos (ER (F := F)) (rcvCell c σ kv h) (h / 3) ∅ 0 ∗ reached (ER (F := F)) (rcvCell c σ kv h) (h / 3))
/-- the two tokens of a transfer. -/
def toks (c : Dev nD) (σ kv : Bool) (h : ℕ) : sProp 𝕄 :=
  iprop(dutyTok (ER (F := F)) (sndCell c σ kv h) (h / 3) 0 ∗ dutyTok (ER (F := F)) (rcvCell (dst σ c) σ kv h) (h / 3) 0)

theorem sndCell_add (c : Dev nD) (σ kv : Bool) (h : ℕ) : sndCell c σ kv (h + 3) = sndCell c σ kv h := by
  unfold sndCell; rw [sl_add]
theorem rcvCell_add (c : Dev nD) (σ kv : Bool) (h : ℕ) : rcvCell c σ kv (h + 3) = rcvCell c σ kv h := by
  unfold rcvCell; rw [show h + 3 + 1 = (h + 1) + 3 by omega, sl_add]

/-! ### The transfers -/

/-- The share of the source that a transfer borrows is what its send cell's duty hands back. -/
theorem lent (c : Dev nD) (σ kv : Bool) (h : ℕ) (fs : Buf (Elt F) ((slot σ kv (sl h)).view.loc (c : Thread nD τ))) :
    ((slot σ kv (sl h)).view.loc (c : Thread nD τ) ↦[(slot σ kv (sl h)).view.set]{fullShare.right} fs : sProp 𝕄)
      ⊢ (Rd B).payload ((c : Thread nD τ), .dma (sem1 (sSems σ kv) (sl h))) (h / 3) 0 := by
  rw [show (Rd B).payload ((c : Thread nD τ), .dma (sem1 (sSems σ kv) (sl h))) (h / 3) 0 = pay B c (.snd σ kv (sl h)) (h / 3) 0
    from payload_cell B c (.snd σ kv (sl h)) (h / 3) 0]
  exact ownsSat_of (c : Thread nD τ) (slot σ kv (sl h)) fullShare.right (Φ := fun _ => True) trivial

/-- What a transfer leaves in the destination is what its receive cell's duty hands over. -/
theorem landed (c : Dev nD) (σ kv : Bool) (h : ℕ) (fd : Buf (Elt F) ((slot σ kv (sl (h + 1))).view.loc (dst σ c : Thread nD τ)))
    (fs : Buf (Elt F) ((slot σ kv (sl h)).view.loc (c : Thread nD τ))) (hfs : (slot σ kv (sl h)).view.read (Elt F) fs = held B c σ kv h) :
    ((slot σ kv (sl (h + 1))).view.loc (dst σ c : Thread nD τ) ↦[(slot σ kv (sl (h + 1))).view.set]{fullShare}
        ((slot σ kv (sl (h + 1))).view.write (Elt F) fd ((slot σ kv (sl h)).view.read (Elt F) fs) Finset.univ) : sProp 𝕄)
      ⊢ (Rd B).payload ((dst σ c : Thread nD τ), .dma (sem1 (rSems σ kv) (sl (h + 1)))) (h / 3) 0 := by
  rw [show (Rd B).payload ((dst σ c : Thread nD τ), .dma (sem1 (rSems σ kv) (sl (h + 1)))) (h / 3) 0
      = pay B (dst σ c) (.rcv σ kv (sl (h + 1))) (h / 3) 0 from payload_cell B (dst σ c) (.rcv σ kv (sl (h + 1))) (h / 3) 0, pay_rcv]
  unfold owns
  iintro H; iexists ((slot σ kv (sl (h + 1))).view.write (Elt F) fd ((slot σ kv (sl h)).view.read (Elt F) fs) Finset.univ); isplitr
  · ipureintro; rw [View.read_write_univ, hfs, held, held, orig_dst]
  · iexact H

set_option maxHeartbeats 1600000 in
/-- A transfer of hop `h`: half of the source is lent, the destination's slot is filled. -/
theorem wp_sendP (c : Dev nD) (σ kv : Bool) {h : ℕ} (hh : h < 7) {d : Dev nD} (hd : d = dst σ c) (ix : ℕ) (l : List Due)
    {α : Type} {Q : α → sProp 𝕄} {k : PUnit → P F α} :
    iprop(recs B nm ∗ owns (c : Thread nD τ) (slot σ kv (sl h)) fullShare (held B c σ kv h) ∗ anySlot (F := F) (dst σ c) σ kv (sl (h + 1))
        ∗ ow c ((rcvCell (dst σ c) σ kv h, ix, N) :: l) ∗ toks c σ kv h ∗ posS c σ kv h
        ∗ reached (ER (F := F)) (rcvCell (dst σ c) σ kv h) (h / 3))
      ⊢ iprop(((cred (tallyAt (sndCell c σ kv h) 0 N) ∗ ow c l ∗ posS c σ kv h
            ∗ owns (c : Thread nD τ) (slot σ kv (sl h)) fullShare.left (held B c σ kv h)) -∗ wpc c (k ⟨⟩) Q)
          -∗ wpc c (sendP σ kv (sl h) (sl (h + 1)) d >>= k) Q) := by
  subst hd
  unfold sendP
  simp only [Prog.lift, Prog.bind_op, Prog.bind_ret]
  unfold ow toks posS anySlot ownsSat
  iintro ⟨#HI, Hs, ⟨%fd, -, Hd⟩, ⟨%W, HO⟩, ⟨Ht1, Ht2⟩, ⟨Ha, #Hr1⟩, #Hr2⟩ Hk
  ihave Hs2 := (owns_halves (c : Thread nD τ) (slot σ kv (sl h)) fullShare (held B c σ kv h)).1 $$ Hs
  icases Hs2 with ⟨Hl, Hr⟩
  ihave Hr' := (Entails.of_eq (show (owns (c : Thread nD τ) (slot σ kv (sl h)) fullShare.right (held B c σ kv h) : sProp 𝕄)
    = iprop(∃ f, ⌜(slot σ kv (sl h)).view.read (Elt F) f = held B c σ kv h⌝ ∗ ((slot σ kv (sl h)).view.loc (c : Thread nD τ) ↦[(slot σ kv (sl h)).view.set]{fullShare.right} f)) from rfl)) $$ Hr
  icases Hr' with ⟨%fs, %hfs, Hr⟩
  iapply (Rounds.wp_send_pointsTo 𝒱₀ ER (Rd B) (c : Thread nD τ) none (c' := (dst σ c : Thread nD τ)) (src := slot σ kv (sl h)) (dst := slot σ kv (sl (h + 1)))
    (sS := .dma (sem1 (sSems σ kv) (sl h))) (sem := .dma (sem1 (rSems σ kv) (sl (h + 1)))) (κ₁ := nm.κ c (.snd σ kv (sl h)))
    (κ₂ := nm.κ (dst σ c) (.rcv σ kv (sl (h + 1)))) (r₁ := h / 3) (r₂ := h / 3) (d₁ := 0) (d₂ := 0) (q := fullShare.right) (fs := fs) (fd := fd)
    (show 0 ∈ (Rd B).duties (cell c (.snd σ kv (sl h))) (h / 3) by rw [duties_cell, nDuties_snd σ kv hh]; exact Finset.mem_range.mpr Nat.one_pos)
    (show 0 ∈ (Rd B).duties (cell (dst σ c) (.rcv σ kv (sl (h + 1)))) (h / 3) by rw [duties_cell, nDuties_rcv σ kv hh]; exact Finset.mem_range.mpr Nat.one_pos)
    ix 0 N rfl (amount_cell B c (.snd σ kv (sl h)) (h / 3) 0) (amount_cell B (dst σ c) (.rcv σ kv (sl (h + 1))) (h / 3) 0)
    (tallyL l) (show tallyL ((rcvCell (dst σ c) σ kv h, ix, N) :: l) = tallyL l + tallyAt (rcvCell (dst σ c) σ kv h) ix N from add_comm _ _) (W := W)
    (lent B c σ kv h fs) (landed B c σ kv h fd fs hfs)) $$ [Hr Hd HO Ht1 Ht2]
  · isplitr; · iapply (recs_cell B nm c (.snd σ kv (sl h))) $$ HI
    isplitr; · iapply (recs_cell B nm (dst σ c) (.rcv σ kv (sl (h + 1)))) $$ HI
    isplitl [Hr]; · iexact Hr
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitl [HO]; · iexists W; iexact HO
  isplitl [Ha]
  · isplitl [Ha]; · iexact Ha
    iexact Hr1
  iexact Hl

/-- The wait that hop `h`'s transfer has read its source: the lent half comes back. -/
theorem wp_waitSendP (c : Dev nD) (σ kv : Bool) {h : ℕ} (hh : h < 7) (s' : Fin 3) {l : List Due} (hl : Below 0 l)
    {α : Type} {Q : α → sProp 𝕄} {k : PUnit → P F α} :
    iprop(recs B nm ∗ cred (tallyAt (sndCell c σ kv h) 0 N) ∗ ow c l ∗ posS c σ kv h
        ∗ owns (c : Thread nD τ) (slot σ kv (sl h)) fullShare.left (held B c σ kv h))
      ⊢ iprop(((ow c l ∗ posS c σ kv (h + 3) ∗ anySlot (F := F) c σ kv (sl h)) -∗ wpc c (k ⟨⟩) Q)
          -∗ wpc c (waitSendP σ kv (sl h) s' >>= k) Q) := by
  unfold waitSendP
  simp only [Prog.lift, Prog.bind_op, Prog.bind_ret]
  unfold ow posS
  rw [sndCell_add, show (h + 3) / 3 = h / 3 + 1 by omega]
  iintro ⟨#HI, Hc, ⟨%W, HO⟩, ⟨Ha, -⟩, Hl⟩ Hk
  iapply (Rounds.wp_wait_rest_token 𝒱₀ ER (Rd B) (c : Thread nD τ) none (κ := nm.κ c (.snd σ kv (sl h)))
      (wpE_waitDma2_eq 𝒱₀ (c : Thread nD τ) none Set.univ) (Set.mem_univ _) 0 (O := tallyL l) (W := W) (R := h / 3) (m := 0) (T := ∅)
      (by rw [Nat.zero_add]; exact ((expect_cell B c (.snd σ kv (sl h)) (h / 3)).trans (by rw [nDuties_snd σ kv hh, one_mul]; rfl)).symm)) $$ [Hc HO Ha]
  · isplitr; · iapply (recs_cell B nm c (.snd σ kv (sl h))) $$ HI
    isplitl [Hc]; · iexact Hc
    isplitl [HO]; · iexact HO
    isplitr; · iapply (recs_mayWait B nm c _ (by omega) hl) $$ HI
    iexact Ha
  iintro ⟨HO, Ha, Hr, Hp⟩
  ihave Hp := (Entails.of_eq (show bigSep ((Rd B).duties ((c : Thread nD τ), .dma (sem1 (sSems σ kv) (sl h))) (h / 3) \ ∅) (fun d => (Rd B).payload ((c : Thread nD τ), .dma (sem1 (sSems σ kv) (sl h))) (h / 3) d)
      = (ownsSat (c : Thread nD τ) (slot σ kv (sl h)) fullShare.right (fun _ => True) : sProp 𝕄) by
    show bigSep ((Rd B).duties (cell c (.snd σ kv (sl h))) (h / 3) \ ∅) (fun d => (Rd B).payload (cell c (.snd σ kv (sl h))) (h / 3) d) = _
    rw [Finset.sdiff_empty, duties_cell, nDuties_snd σ kv hh, Finset.range_one, bigSep_singleton, payload_cell]; rfl)) $$ Hp
  ihave Hs := (owns_rejoin (c : Thread nD τ) (slot σ kv (sl h)) fullShare (held B c σ kv h)) $$ [Hl Hp]
  · isplitl [Hl] <;> iassumption
  iapply Hk
  isplitl [HO]; · iexists _; iexact HO
  isplitl [Ha Hr]
  · isplitl [Ha]; · iexact Ha
    iexact Hr
  unfold anySlot
  iapply (ownsSat_intro (c : Thread nD τ) (slot σ kv (sl h)) fullShare (X := held B c σ kv h) trivial) $$ Hs

/-- The wait that hop `h`'s transfer has arrived: the slot comes filled. -/
theorem wp_waitRecvP (c : Dev nD) (σ kv : Bool) {h : ℕ} (hh : h < 7) {ix : ℕ} (hix : ix < 100) {l : List Due} (hl : Below ix l)
    {α : Type} {Q : α → sProp 𝕄} {k : PUnit → P F α} :
    iprop(recs B nm ∗ cred (tallyAt (rcvCell c σ kv h) ix N) ∗ ow c l ∗ posR c σ kv h)
      ⊢ iprop(((ow c l ∗ posR c σ kv (h + 3) ∗ owns (c : Thread nD τ) (slot σ kv (sl (h + 1))) fullShare (held B c σ kv (h + 1)))
            -∗ wpc c (k ⟨⟩) Q)
          -∗ wpc c (waitRecvP σ kv (sl (h + 1)) >>= k) Q) := by
  unfold waitRecvP
  simp only [Prog.lift, Prog.bind_op, Prog.bind_ret]
  unfold ow posR
  rw [rcvCell_add, show (h + 3) / 3 = h / 3 + 1 by omega]
  iintro ⟨#HI, Hc, ⟨%W, HO⟩, ⟨Ha, -⟩⟩ Hk
  iapply (Rounds.wp_wait_rest_token 𝒱₀ ER (Rd B) (c : Thread nD τ) none (κ := nm.κ c (.rcv σ kv (sl (h + 1))))
      (wpE_waitDma2_eq 𝒱₀ (c : Thread nD τ) none Set.univ) (Set.mem_univ _) ix (O := tallyL l) (W := W) (R := h / 3) (m := 0) (T := ∅)
      (by rw [Nat.zero_add]; exact ((expect_cell B c (.rcv σ kv (sl (h + 1))) (h / 3)).trans (by rw [nDuties_rcv σ kv hh, one_mul]; rfl)).symm)) $$ [Hc HO Ha]
  · isplitr; · iapply (recs_cell B nm c (.rcv σ kv (sl (h + 1)))) $$ HI
    isplitl [Hc]; · iexact Hc
    isplitl [HO]; · iexact HO
    isplitr; · iapply (recs_mayWait B nm c _ hix hl) $$ HI
    iexact Ha
  iintro ⟨HO, Ha, Hr, Hp⟩
  ihave Hp := (Entails.of_eq (show bigSep ((Rd B).duties ((c : Thread nD τ), .dma (sem1 (rSems σ kv) (sl (h + 1)))) (h / 3) \ ∅) (fun d => (Rd B).payload ((c : Thread nD τ), .dma (sem1 (rSems σ kv) (sl (h + 1)))) (h / 3) d)
      = (owns (c : Thread nD τ) (slot σ kv (sl (h + 1))) fullShare (held B c σ kv (h + 1)) : sProp 𝕄) by
    show bigSep ((Rd B).duties (cell c (.rcv σ kv (sl (h + 1)))) (h / 3) \ ∅) (fun d => (Rd B).payload (cell c (.rcv σ kv (sl (h + 1)))) (h / 3) d) = _
    rw [Finset.sdiff_empty, duties_cell, nDuties_rcv σ kv hh, Finset.range_one, bigSep_singleton, payload_cell, pay_rcv])) $$ Hp
  iapply Hk
  isplitl [HO]; · iexists _; iexact HO
  isplitl [Ha Hr]
  · isplitl [Ha]; · iexact Ha
    iexact Hr
  iexact Hp

end Cert.Proof

end
-- ==== Proof.Sync.lean ====
/-
  The signals and the waits by which neighbours tell each other that slots are free.
-/
module

public import proofs.«01_k».proof.Proof.Ops

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

variable (B : Bool → Bool → Dev nD → Vec F S2048x256 .bf16) (nm : Names)

/-! ### Facts -/

theorem facts_snoc (c : Dev nD) (σ : Bool) (n : ℕ) : iprop(facts (F := F) c σ n ∗ fact (F := F) c σ n) ⊢ facts (F := F) c σ (n + 1) := by
  rw [show facts (F := F) c σ (n + 1) = iprop(fact (F := F) c σ n ∗ facts (F := F) c σ n) by
    unfold facts; rw [Finset.range_add_one, bigSep_insert Finset.notMem_range_self]; rfl]
  iintro ⟨H1, H2⟩; isplitl [H2] <;> iassumption

theorem anySlot_false (c : Dev nD) (σ kv : Bool) (s : Fin 3) :
    iprop(anySlot (F := F) c σ kv s ∗ anySlot (F := F) c σ kv s) ⊢ (False : sProp 𝕄) := by
  unfold anySlot ownsSat
  obtain ⟨i, hi⟩ := (slot σ kv s).view.set_nonempty (by decide)
  iintro ⟨⟨%f, -, H1⟩, ⟨%g, -, H2⟩⟩
  iapply (pointsTo_overlap_false (ℓ := (slot σ kv s).view.loc (c : Thread nD τ)) (I := (slot σ kv s).view.set) (J := (slot σ kv s).view.set) (i := i) (q := fullShare) (f := f) (g := g) hi hi)
  isplitl [H1] <;> iassumption

theorem anyPair_false (c : Dev nD) (σ : Bool) (s : Fin 3) :
    iprop(anyPair (F := F) c σ s ∗ anyPair (F := F) c σ s) ⊢ (False : sProp 𝕄) := by
  unfold anyPair
  iintro ⟨⟨H1, -⟩, ⟨H2, -⟩⟩
  iapply (anySlot_false c σ false s)
  isplitl [H1] <;> iassumption

/-- A reader lets go of the slot that hop `h` writes. -/
theorem release_fact (c : Dev nD) (σ : Bool) {h : ℕ} (hh : h < 7) :
    iprop(recs B nm ∗ Release.readerAt (EL (F := F)) (c, σ, (⟨h, hh⟩ : Fin 7)) 0 ∗ anyPair (F := F) c σ (sl (h + 1))
        ∗ reached (ER (F := F)) (rcvCell c σ false h) (h / 3) ∗ reached (ER (F := F)) (rcvCell c σ true h) (h / 3))
      ⊢ (|={Set.univ}=> fact (F := F) c σ h : sProp 𝕄) := by
  iintro ⟨#HI, Hr, Hp, #H1, #H2⟩
  imod (Release.slot_release (EL (F := F)) (k := (c, σ, (⟨h, hh⟩ : Fin 7))) (ι := nm.ι (c, σ, ⟨h, hh⟩)) (S := anyPair (F := F) c σ (sl (h + 1)))
    (Set.mem_univ _) (anyPair_false c σ _) 0) $$ [Hr Hp] with ⟨-, Hrel⟩
  · isplitr; · iapply (recs_slot B nm (c, σ, ⟨h, hh⟩)) $$ HI
    isplitl [Hr] <;> iassumption
  imodintro
  unfold fact
  rw [dif_pos hh]
  isplitl [Hrel]; · iexact Hrel
  isplitr; · iexact H1
  iexact H2

/-- A writer that knows the slot free takes it. -/
theorem take_slot (c : Dev nD) (σ : Bool) {h : ℕ} (hh : h < 7) :
    iprop(recs B nm ∗ fact (F := F) c σ h ∗ Release.writeTok (EL (F := F)) (c, σ, (⟨h, hh⟩ : Fin 7)) 1)
      ⊢ (|={Set.univ}=> anyPair (F := F) c σ (sl (h + 1)) : sProp 𝕄) := by
  unfold fact
  rw [dif_pos hh]
  iintro ⟨#HI, ⟨#Hrel, -, -⟩, Ht⟩
  iapply (Release.slot_take (EL (F := F)) (k := (c, σ, (⟨h, hh⟩ : Fin 7))) (ι := nm.ι (c, σ, ⟨h, hh⟩)) (S := anyPair (F := F) c σ (sl (h + 1)))
    (Set.mem_univ _) 1)
  isplitr; · iapply (recs_slot B nm (c, σ, ⟨h, hh⟩)) $$ HI
  isplitr; · iexact Hrel
  iexact Ht

theorem fact_reached (c : Dev nD) (σ : Bool) : ∀ (kv : Bool) (h : ℕ), fact (F := F) c σ h ⊢ reached (ER (F := F)) (rcvCell c σ kv h) (h / 3)
  | false, h => by unfold fact; iintro ⟨-, H, -⟩; iexact H
  | true, h => by unfold fact; iintro ⟨-, -, H⟩; iexact H

/-! ### The ready cells -/

/-- After `j` waits at a ready cell. -/
def rdySt (c : Dev nD) (σ : Bool) (j : ℕ) : sProp 𝕄 :=
  if j < 5 then iprop(∃ T : Finset ℕ, ⌜j ≤ T.card⌝ ∗ atPos (ER (F := F)) (rdyCell c σ) 0 T j
    ∗ bigSep T fun d => facts (F := F) (dst σ c) σ (d + 3))
  else atPos (ER (F := F)) (rdyCell c σ) 1 ∅ 0

/-- Among `j + 1` signals one is the `j`-th or later. -/
theorem fact_of_card (c : Dev nD) (σ : Bool) (S : Finset ℕ) {j : ℕ} (hS : j + 1 ≤ S.card) :
    (bigSep S fun d => facts (F := F) c σ (d + 3)) ⊢ fact (F := F) c σ (j + 2) := by
  have h : ∃ d ∈ S, j ≤ d := by
    by_contra hc
    have : S ⊆ Finset.range j := fun d hd => Finset.mem_range.mpr (by by_contra hj; exact hc ⟨d, hd, by omega⟩)
    have := Finset.card_le_card this
    rw [Finset.card_range] at this; omega
  obtain ⟨d, hd, hj⟩ := h
  exact (bigSep_elim (Φ := fun d => facts (F := F) c σ (d + 3)) hd).trans (facts_elim c σ (by omega))

theorem rdy_rest (c : Dev nD) (σ : Bool) {T S : Finset ℕ} (hTS : T ⊆ S) :
    iprop((bigSep T fun d => facts (F := F) (dst σ c) σ (d + 3))
        ∗ bigSep (S \ T) fun d => (Rd B).payload ((c : Thread nD τ), .reg (ready σ).sem) 0 d)
      ⊢ (bigSep S fun d => facts (F := F) (dst σ c) σ (d + 3) : sProp 𝕄) := by
  rw [show (fun d => (Rd B).payload ((c : Thread nD τ), .reg (ready σ).sem) 0 d) = fun d => facts (F := F) (dst σ c) σ (d + 3) from
    funext fun d => payload_cell B c (.rdy σ) 0 d]
  have h : iprop((bigSep T fun d => facts (F := F) (dst σ c) σ (d + 3)) ∗ bigSep (S \ T) fun d => facts (F := F) (dst σ c) σ (d + 3))
      ⊢ (bigSep (T ∪ S \ T) fun d => facts (F := F) (dst σ c) σ (d + 3) : sProp 𝕄) := bigSep_sep_union T (S \ T)
  rwa [Finset.union_sdiff_of_subset hTS] at h

/-- The `j`-th wait at a ready cell: the slot that hop `j + 2` writes is free. -/
theorem wp_waitReady (c : Dev nD) (σ : Bool) {j : ℕ} (hj : j < 5) {l : List Due} (hl : Below (10 * j + 8) l)
    {α : Type} {Q : α → sProp 𝕄} {k : PUnit → P F α} :
    iprop(recs B nm ∗ cred (tallyAt (rdyCell c σ) (10 * j + 8) 1) ∗ ow c l ∗ rdySt (F := F) c σ j)
      ⊢ iprop(((ow c l ∗ rdySt (F := F) c σ (j + 1) ∗ fact (F := F) (dst σ c) σ (j + 2)) -∗ wpc c (k ⟨⟩) Q)
          -∗ wpc c (semWaitWord (ready σ).sem 1#32 >>= k) Q) := by
  have hexp : (Rd B).expect ((c : Thread nD τ), .reg (ready σ).sem) 0 = 5 := (expect_cell B c (.rdy σ) 0).trans rfl
  have hdut : (Rd B).duties ((c : Thread nD τ), .reg (ready σ).sem) 0 = Finset.range 5 := duties_cell B c (.rdy σ) 0
  simp only [semWaitWord, Prog.lift, Prog.bind_op, Prog.bind_ret]
  unfold ow
  rw [rdySt, if_pos hj]
  iintro ⟨#HI, Hc, ⟨%W, HO⟩, ⟨%T, %hT, Ha, #HT⟩⟩ Hk
  rcases Nat.lt_or_ge j 4 with h4 | h4
  · iapply (Rounds.wp_wait 𝒱₀ ER (Rd B) (c : Thread nD τ) none (κ := nm.κ c (.rdy σ))
        (wpE_semWait_eq 𝒱₀ (c : Thread nD τ) none Set.univ) (Set.mem_univ _) {(SemLoc.reg (ready σ).sem, 10 * j + 8)}
        (cr := Finsupp.single (10 * j + 8) 1) (O := tallyL l) (W := W) (R := 0) (m := j) (T := T)
        (Util.total_single _ _) (image_single_subset _ _ _)) $$ [Hc HO Ha]
    · isplitr; · iapply (recs_cell B nm c (.rdy σ)) $$ HI
      isplitl [Hc]; · iexact Hc
      isplitl [HO]; · iexact HO
      isplitr; · iapply (recs_mayWait B nm c _ (by omega) hl) $$ HI
      iexact Ha
    iintro %S ⟨%hS, HO, Ha, Hp⟩
    obtain ⟨hTS, hSD, hcard⟩ := hS
    ihave #HS := (rdy_rest B c σ hTS) $$ [Hp]
    · isplitr; · iexact HT
      iexact Hp
    have hSc : j + 1 ≤ S.card := by
      rw [hexp, hdut] at hcard; rw [hdut] at hSD
      have := Finset.card_sdiff_add_card_eq_card hSD
      rw [Finset.card_range] at this
      have h1 : (1#32).toInt.toNat = 1 := rfl
      omega
    iapply Hk
    isplitl [HO]; · iexists _; iexact HO
    isplitl [Ha]
    · rw [rdySt, if_pos (by omega)]
      iexists S
      isplitr; · ipureintro; exact hSc
      isplitl [Ha]; · iexact Ha
      iexact HS
    iapply (fact_of_card (dst σ c) σ S hSc) $$ HS
  · obtain rfl : j = 4 := by omega
    iapply (Rounds.wp_wait_rest_token 𝒱₀ ER (Rd B) (c : Thread nD τ) none (κ := nm.κ c (.rdy σ))
        (wpE_semWait_eq 𝒱₀ (c : Thread nD τ) none Set.univ) (Set.mem_univ _) (10 * 4 + 8) (O := tallyL l) (W := W) (R := 0) (m := 4) (T := T)
        (by rw [hexp]; rfl)) $$ [Hc HO Ha]
    · isplitr; · iapply (recs_cell B nm c (.rdy σ)) $$ HI
      isplitl [Hc]; · iexact Hc
      isplitl [HO]; · iexact HO
      isplitr; · iapply (recs_mayWait B nm c _ (by omega) hl) $$ HI
      iexact Ha
    iintro ⟨HO, Ha, -, Hp⟩
    iapply Hk
    isplitl [HO]; · iexists _; iexact HO
    isplitl [Ha]
    · rw [rdySt, if_neg (by omega)]; iexact Ha
    ihave #HS := (rdy_rest B c σ (T := T) (S := T ∪ Finset.range 5) Finset.subset_union_left) $$ [Hp]
    · isplitr; · iexact HT
      rw [Finset.union_sdiff_left, hdut]; iexact Hp
    iapply (fact_of_card (dst σ c) σ (T ∪ Finset.range 5) (j := 4) (by
      have := Finset.card_le_card (Finset.subset_union_right : Finset.range 5 ⊆ T ∪ Finset.range 5)
      rw [Finset.card_range] at this; omega)) $$ HS

set_option maxHeartbeats 800000 in
/-- The signal of hop `j` that a slot is free. -/
theorem wp_free (c : Dev nD) (σ : Bool) {j : ℕ} (hj : j < 5) {d : Dev nD} (hd : d = src σ c) {l : List Due}
    {α : Type} {Q : α → sProp 𝕄} {k : PUnit → P F α} :
    iprop(recs B nm ∗ Release.readerAt (EL (F := F)) (c, σ, (⟨j + 2, by omega⟩ : Fin 7)) 0 ∗ anyPair (F := F) c σ (sl j)
        ∗ reached (ER (F := F)) (rcvCell c σ false (j + 2)) ((j + 2) / 3) ∗ reached (ER (F := F)) (rcvCell c σ true (j + 2)) ((j + 2) / 3)
        ∗ facts (F := F) c σ (j + 2) ∗ ow c (gPay c σ j :: l) ∗ dutyTok (ER (F := F)) (rdyCell (src σ c) σ) 0 j
        ∗ reached (ER (F := F)) (rdyCell (src σ c) σ) 0)
      ⊢ iprop(((ow c l ∗ facts (F := F) c σ (j + 3)) -∗ wpc c (k ⟨⟩) Q)
          -∗ wpc c (semSignalWord d (ready σ).sem 1#32 >>= k) Q) := by
  subst hd
  simp only [semSignalWord, Prog.lift, Prog.bind_op, Prog.bind_ret]
  unfold ow
  iintro ⟨#HI, Hr, Hp, #H1, #H2, #Hf, ⟨%W, HO⟩, Ht, #Hrr⟩ Hk
  imod (release_fact B nm c σ (h := j + 2) (by omega)) $$ [Hr Hp] with #Hfact
  · isplitr; · iexact HI
    isplitl [Hr]; · iexact Hr
    rw [sl_add]
    isplitl [Hp]; · iexact Hp
    isplitr; · iexact H1
    iexact H2
  ihave #Hf' := (facts_snoc c σ (j + 2)) $$ []
  · isplitr; · iexact Hf
    iexact Hfact
  iapply (Rounds.wp_signal 𝒱₀ ER (Rd B) (c : Thread nD τ) none (dst := (src σ c : Thread nD τ)) (κ := nm.κ (src σ c) (.rdy σ)) (r := 0)
      (d := j) (show j ∈ (Rd B).duties (cell (src σ c) (.rdy σ)) 0 by rw [duties_cell]; exact Finset.mem_range.mpr hj)
      ((amount_cell B (src σ c) (.rdy σ) 0 j).trans rfl) (10 * j + 8) (tallyL l)
      (show tallyL (gPay c σ j :: l) = tallyL l + tallyAt (rdyCell (src σ c) σ) (10 * j + 8) 1 from add_comm _ _) (W := W)) $$ [HO Ht]
  · isplitr; · iapply (recs_cell B nm (src σ c) (.rdy σ)) $$ HI
    isplitl [HO]; · iexact HO
    isplitl [Ht]; · iexact Ht
    isplitr
    · rw [show (Rd B).payload ((src σ c : Thread nD τ), .reg (ready σ).sem) 0 j = facts (F := F) c σ (j + 3) from
        (payload_cell B (src σ c) (.rdy σ) 0 j).trans (by show facts (dst σ (src σ c)) σ (j + 3) = _; rw [dst_src])]
      iexact Hf'
    iexact Hrr
  iintro HO
  iapply Hk
  isplitl [HO]; · iexists W; iexact HO
  iexact Hf'

/-! ### The barrier -/

theorem bar_rest (c : Dev nD) :
    (bigSep ((Rd B).duties ((c : Thread nD τ), .reg barS) 0 \ ∅) fun d => (Rd B).payload ((c : Thread nD τ), .reg barS) 0 d)
      ⊢ (iprop(facts (F := F) (dst true c) true 2 ∗ facts (F := F) (dst false c) false 2) : sProp 𝕄) := by
  have hd : (Rd B).duties ((c : Thread nD τ), .reg barS) 0 = {0, 1} := (duties_cell B c .bar 0).trans rfl
  have hp (d : ℕ) : (Rd B).payload ((c : Thread nD τ), .reg barS) 0 d = pay B c .bar 0 d := payload_cell B c .bar 0 d
  rw [Finset.sdiff_empty, hd, bigSep_insert (by decide), bigSep_singleton, hp, hp]
  exact .rfl

set_option maxHeartbeats 800000 in
/-- The barrier: both neighbours learn which slots are free here, and this device which are free there. -/
theorem wp_barrierP (c : Dev nD) {d d' : Dev nD} (hd : d = src true c) (hd' : d' = src false c) {l : List Due} (hl : Below 1 l)
    {α : Type} {Q : α → sProp 𝕄} {k : PUnit → P F α} :
    iprop(recs B nm ∗ cred (tallyAt (barCell c) 1 2) ∗ ow c (bPay c true :: bPay c false :: l)
        ∗ dutyTok (ER (F := F)) (barCell (src true c)) 0 0 ∗ reached (ER (F := F)) (barCell (src true c)) 0
        ∗ dutyTok (ER (F := F)) (barCell (src false c)) 0 1 ∗ reached (ER (F := F)) (barCell (src false c)) 0
        ∗ facts (F := F) c true 2 ∗ facts (F := F) c false 2 ∗ atPos (ER (F := F)) (barCell c) 0 ∅ 0)
      ⊢ iprop(((ow c l ∗ atPos (ER (F := F)) (barCell c) 1 ∅ 0 ∗ facts (F := F) (dst true c) true 2 ∗ facts (F := F) (dst false c) false 2)
            -∗ wpc c (k ⟨⟩) Q)
          -∗ wpc c (barrierP d d' >>= k) Q) := by
  subst hd hd'
  unfold barrierP
  simp only [semSignalWord, semWaitWord, Prog.lift, Prog.bind_op, Prog.bind_ret]
  unfold ow
  iintro ⟨#HI, Hc, ⟨%W, HO⟩, Ht1, #Hr1, Ht2, #Hr2, #Hf1, #Hf2, Ha⟩ Hk
  iapply (Rounds.wp_signal 𝒱₀ ER (Rd B) (c : Thread nD τ) none (dst := (src true c : Thread nD τ)) (κ := nm.κ (src true c) .bar) (r := 0)
      (d := 0) (show 0 ∈ (Rd B).duties (cell (src true c) .bar) 0 by rw [duties_cell]; exact Finset.mem_range.mpr (by decide))
      ((amount_cell B (src true c) .bar 0 0).trans (by decide)) 1 (tallyL (bPay c false :: l))
      (show tallyL (bPay c true :: bPay c false :: l) = tallyL (bPay c false :: l) + tallyAt (barCell (src true c)) 1 1 from add_comm _ _) (W := W)) $$ [HO Ht1]
  · isplitr; · iapply (recs_cell B nm (src true c) .bar) $$ HI
    isplitl [HO]; · iexact HO
    isplitl [Ht1]; · iexact Ht1
    isplitr
    · rw [show (Rd B).payload ((src true c : Thread nD τ), .reg barS) 0 0 = facts (F := F) c true 2 from
        (payload_cell B (src true c) .bar 0 0).trans (by show facts (dst true (src true c)) true 2 = _; rw [dst_src])]
      iexact Hf1
    iexact Hr1
  iintro HO
  iapply (Rounds.wp_signal 𝒱₀ ER (Rd B) (c : Thread nD τ) none (dst := (src false c : Thread nD τ)) (κ := nm.κ (src false c) .bar) (r := 0)
      (d := 1) (show 1 ∈ (Rd B).duties (cell (src false c) .bar) 0 by rw [duties_cell]; exact Finset.mem_range.mpr (by decide))
      ((amount_cell B (src false c) .bar 0 1).trans (by decide)) 1 (tallyL l)
      (show tallyL (bPay c false :: l) = tallyL l + tallyAt (barCell (src false c)) 1 1 from add_comm _ _) (W := W)) $$ [HO Ht2]
  · isplitr; · iapply (recs_cell B nm (src false c) .bar) $$ HI
    isplitl [HO]; · iexact HO
    isplitl [Ht2]; · iexact Ht2
    isplitr
    · rw [show (Rd B).payload ((src false c : Thread nD τ), .reg barS) 0 1 = facts (F := F) c false 2 from
        (payload_cell B (src false c) .bar 0 1).trans (by show facts (dst false (src false c)) false 2 = _; rw [dst_src])]
      iexact Hf2
    iexact Hr2
  iintro HO
  iapply (Rounds.wp_wait_rest_token 𝒱₀ ER (Rd B) (c : Thread nD τ) none (κ := nm.κ c .bar)
      (wpE_semWait_eq 𝒱₀ (c : Thread nD τ) none Set.univ) (Set.mem_univ _) 1 (O := tallyL l) (W := W) (R := 0) (m := 0) (T := ∅)
      (((expect_cell B c .bar 0).trans rfl).symm)) $$ [Hc HO Ha]
  · isplitr; · iapply (recs_cell B nm c .bar) $$ HI
    isplitl [Hc]; · iexact Hc
    isplitl [HO]; · iexact HO
    isplitr; · iapply (recs_mayWait B nm c _ (by omega) hl) $$ HI
    iexact Ha
  iintro ⟨HO, Ha, -, Hp⟩
  ihave Hp := (bar_rest B c) $$ Hp
  icases Hp with ⟨H1, H2⟩
  iapply Hk
  isplitl [HO]; · iexists _; iexact HO
  isplitl [Ha]; · iexact Ha
  isplitl [H1] <;> iassumption

end Cert.Proof

end
-- ==== Proof.Data.lean ====
/-
  The local work of the body: slot 0 is filled, the accumulators cleared, a hop's loop adds a slot's two halves, and the
  closing loop divides.
-/
module

public import proofs.«01_k».proof.Proof.Sync
public import Idealize.ShloMosaic.Lib.Pipeline.Value

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

/-! ### Slots and accesses -/

theorem slot_set (σ kv : Bool) (s : Fin 3) : (slot σ kv s).view.set = ((buf σ).access (slotR s kv)).set := View.set_reshape _ _

/-- A slot is held as what the loads and stores through its rectangle name. -/
theorem slot_access (c : Dev nD) (σ kv : Bool) (s : Fin 3) (q : PosShare TreeShare) (f : (slot σ kv s).view.ty.Contents (Elt F)) :
    ((slot σ kv s).view.loc (c : Thread nD τ) ↦[(slot σ kv s).view.set]{q} f : sProp 𝕄)
      ⊣⊢ (((buf σ).access (slotR s kv)).loc (c : Thread nD τ) ↦[((buf σ).access (slotR s kv)).set]{q} f : sProp 𝕄) := by
  rw [← slot_set]; exact .rfl

/-- A slot's contents in the shape in which they are loaded. -/
abbrev up (X : Vec F S2048x256 .bf16) : Vec F S1x1x2048x256 .bf16 := shapeCast S1x1x2048x256 X shapeCasts_S2048x256_S1x1x2048x256
abbrev down (X : Vec F S1x1x2048x256 .bf16) : Vec F S2048x256 .bf16 := shapeCast S2048x256 X shapeCasts_S1x1x2048x256_S2048x256

theorem slot_read (σ kv : Bool) (s : Fin 3) (f : (slot σ kv s).view.ty.Contents (Elt F)) :
    (slot σ kv s).view.read (Elt F) f = down (((buf σ).access (slotR s kv)).read (Elt F) f) := rfl

/-- A load of a slot. -/
theorem wp_load_slot (c : Dev nD) (σ kv : Bool) (s : Fin 3) (q : PosShare TreeShare) (X : Vec F S2048x256 .bf16)
    {hl : (buf σ).view.LoadsAt (slotR s kv).toLoadRect} {α : Type} {Q : α → sProp 𝕄} {k : Vec F S1x1x2048x256 .bf16 → P F α} :
    (owns (c : Thread nD τ) (slot σ kv s) q X : sProp 𝕄)
      ⊢ iprop((owns (c : Thread nD τ) (slot σ kv s) q X -∗ wpc c (k (up X)) Q)
          -∗ wpc c (.op (.load (buf σ) (slotR s kv).toLoadRect hl) k) Q) := by
  unfold owns
  iintro ⟨%f, %hf, H⟩ Hk
  have hX : ((buf σ).access (slotR s kv)).read (Elt F) f = up X := by
    rw [← hf, slot_read]; exact (shapeCast_shapeCast _ _ _).symm
  ihave H := (slot_access c σ kv s q f).1 $$ H
  iapply (wp_load_rect 𝒱₀ (c : Thread nD τ) none Set.univ (m := buf σ) (r := slotR s kv) (S := ((buf σ).access (slotR s kv)).set) (q := q) (f := f)
    (Finset.Subset.refl _)) $$ H
  iintro H
  rw [hX]
  iapply Hk
  ihave H := (slot_access c σ kv s q f).2 $$ H
  iexists f
  isplitr; · ipureintro; exact hf
  iexact H

/-! ### The start -/

/-- A half block as it stands in a slot. -/
def half (x : Memref sig .tc .vmem S4096x256 .f32) (off : Fin 2 → Nat) (inb : ∀ a, off a + S2048x256.size a ≤ S4096x256.size a)
    (f : x.view.ty.Contents (Elt F)) : Vec F S2048x256 .bf16 :=
  down (k0_pay43 (x.view.readAt (Elt F) (Rect.unit (s := S4096x256) off S2048x256.size inb).toLoadRect f))

theorem wp_fillP (c : Dev nD) (x : Memref sig .tc .vmem S4096x256 .f32) (off : Fin 2 → Nat)
    (inb : ∀ a, off a + S2048x256.size a ≤ S4096x256.size a) (σ kv : Bool) (f : Buf (Elt F) (x.view.loc (c : Thread nD τ)))
    {α : Type} {Q : α → sProp 𝕄} {k : PUnit → P F α} :
    iprop((x.view.loc (c : Thread nD τ) ↦{fullShare} f) ∗ anySlot (F := F) c σ kv 0)
      ⊢ iprop((((x.view.loc (c : Thread nD τ) ↦{fullShare} f) ∗ owns (c : Thread nD τ) (slot σ kv 0) fullShare (half x off inb f))
            -∗ wpc c (k ⟨⟩) Q)
          -∗ wpc c (fillP x off inb σ kv >>= k) Q) := by
  unfold fillP
  simp only [Prog.lift, Prog.bind_op, Prog.bind_ret]
  unfold anySlot ownsSat
  iintro ⟨Hx, ⟨%g, -, Hs⟩⟩ Hk
  iapply (wp_load 𝒱₀ (c : Thread nD τ) none Set.univ (m := x) (Finset.subset_univ _)) $$ Hx; iintro Hx
  ihave Hs := (slot_access c σ kv 0 fullShare g).1 $$ Hs
  iapply (wp_load_rect 𝒱₀ (c : Thread nD τ) none Set.univ (m := buf σ) (r := slotR 0 kv) (S := ((buf σ).access (slotR 0 kv)).set) (q := fullShare) (f := g)
    (Finset.Subset.refl _)) $$ Hs
  iintro Hs
  iapply (wp_store 𝒱₀ (c : Thread nD τ) none Set.univ (m := buf σ) (r := slotR 0 kv) (Mk := Finset.univ) (S := ((buf σ).access (slotR 0 kv)).set) (f := g)
    (View.setOn_subset_set _ _)) $$ Hs
  iintro Hs
  iapply Hk
  isplitl [Hx]; · iexact Hx
  unfold owns
  ihave Hs := (slot_access c σ kv 0 fullShare (((buf σ).access (slotR 0 kv)).write (Elt F) g (k0_pay43 (x.view.readAt (Elt F) (Rect.unit (s := S4096x256) off S2048x256.size inb).toLoadRect f)) Finset.univ)).2 $$ Hs
  iexists (((buf σ).access (slotR 0 kv)).write (Elt F) g (k0_pay43 (x.view.readAt (Elt F) (Rect.unit (s := S4096x256) off S2048x256.size inb).toLoadRect f)) Finset.univ)
  isplitr
  rotate_left; · iexact Hs
  ipureintro
  exact (slot_read σ kv 0 _).trans ((congrArg down (View.read_write_univ _ _)).trans rfl)

/-- The rounded queries. -/
def qb (Qv : qM.view.ty.Contents (Elt F)) : qbM.view.ty.Contents (Elt F) := k0_pay42 (Qv : Vec F S4096x256 .f32)

theorem hz2 : (![0, 0] : Fin 2 → Nat) = fun _ => 0 := by funext a; fin_cases a <;> rfl

/-- The offsets of a side's half in a block. -/
def hoff : Bool → Fin 2 → Nat
  | true => ![0, 0]
  | false => ![2048, 0]
theorem hoff_inb : ∀ σ a, hoff σ a + S2048x256.size a ≤ S4096x256.size a
  | true => inb_S4096x256_S2048x256_0_0
  | false => inb_S4096x256_S2048x256_2048_0

set_option maxHeartbeats 800000 in
/-- The set-up of the local buffers. -/
theorem wp_setupP (c : Dev nD) (Qv : qM.view.ty.Contents (Elt F)) (Kv : kM.view.ty.Contents (Elt F)) (Vv : vM.view.ty.Contents (Elt F))
    {α : Type} {Q : α → sProp 𝕄} {k : PUnit → P F α} :
    iprop((qM.view.loc (c : Thread nD τ) ↦{fullShare} Qv) ∗ (kM.view.loc (c : Thread nD τ) ↦{fullShare} Kv) ∗ (vM.view.loc (c : Thread nD τ) ↦{fullShare} Vv)
        ∗ (∃ f, qbM.view.loc (c : Thread nD τ) ↦{fullShare} f) ∗ (∃ f, oM.view.loc (c : Thread nD τ) ↦{fullShare} f) ∗ (∃ f, lM.view.loc (c : Thread nD τ) ↦{fullShare} f)
        ∗ anyPair (F := F) c true 0 ∗ anyPair (F := F) c false 0)
      ⊢ iprop(((qM.view.loc (c : Thread nD τ) ↦{fullShare} Qv) ∗ (kM.view.loc (c : Thread nD τ) ↦{fullShare} Kv) ∗ (vM.view.loc (c : Thread nD τ) ↦{fullShare} Vv)
          ∗ (qbM.view.loc (c : Thread nD τ) ↦{fullShare} qb Qv) ∗ (oM.view.loc (c : Thread nD τ) ↦{fullShare} (k0_pay48 (F := F)))
          ∗ (lM.view.loc (c : Thread nD τ) ↦{fullShare} (k0_pay49 (F := F)))
          ∗ (owns (c : Thread nD τ) (slot true false 0) fullShare (half kM (hoff true) (hoff_inb true) Kv)
            ∗ owns (c : Thread nD τ) (slot true true 0) fullShare (half vM (hoff true) (hoff_inb true) Vv))
          ∗ owns (c : Thread nD τ) (slot false false 0) fullShare (half kM (hoff false) (hoff_inb false) Kv)
            ∗ owns (c : Thread nD τ) (slot false true 0) fullShare (half vM (hoff false) (hoff_inb false) Vv)
          -∗ wpc c (k ⟨⟩) Q)
          -∗ wpc c (setupP >>= k) Q) := by
  unfold setupP anyPair
  simp only [bind_assoc]
  iintro ⟨Hq, Hkk, Hv, ⟨%f1, Hb⟩, ⟨%f2, Ho⟩, ⟨%f3, Hl⟩, ⟨Ha, Hb2⟩, ⟨Hc, Hd⟩⟩ Hk
  simp only [Prog.lift, Prog.bind_op, Prog.bind_ret]
  iapply (wp_load 𝒱₀ (c : Thread nD τ) none Set.univ (m := qM) (Finset.subset_univ _)) $$ Hq; iintro Hq
  iapply (wp_load 𝒱₀ (c : Thread nD τ) none Set.univ (m := qbM) (Finset.subset_univ _)) $$ Hb; iintro Hb
  iapply (wp_store 𝒱₀ (c : Thread nD τ) none Set.univ (m := qbM) (r := Rect.unit (s := S4096x256) ![0, 0] S4096x256.size inb_S4096x256_S4096x256_0_0) (Mk := Finset.univ) (Finset.subset_univ _)) $$ Hb; iintro Hb
  iapply (wp_fillP c kM (hoff true) (hoff_inb true) true false Kv) $$ [Hkk Ha]
  · isplitl [Hkk] <;> iassumption
  iintro ⟨Hkk, Ha⟩
  iapply (wp_fillP c vM (hoff true) (hoff_inb true) true true Vv) $$ [Hv Hb2]
  · isplitl [Hv] <;> iassumption
  iintro ⟨Hv, Hb2⟩
  iapply (wp_fillP c kM (hoff false) (hoff_inb false) false false Kv) $$ [Hkk Hc]
  · isplitl [Hkk] <;> iassumption
  iintro ⟨Hkk, Hc⟩
  iapply (wp_fillP c vM (hoff false) (hoff_inb false) false true Vv) $$ [Hv Hd]
  · isplitl [Hv] <;> iassumption
  iintro ⟨Hv, Hd⟩
  iapply (wp_load 𝒱₀ (c : Thread nD τ) none Set.univ (m := oM) (Finset.subset_univ _)) $$ Ho; iintro Ho
  iapply (wp_store 𝒱₀ (c : Thread nD τ) none Set.univ (m := oM) (r := Rect.unit (s := S4096x256) ![0, 0] S4096x256.size inb_S4096x256_S4096x256_0_0) (Mk := Finset.univ) (Finset.subset_univ _)) $$ Ho; iintro Ho
  iapply (wp_load 𝒱₀ (c : Thread nD τ) none Set.univ (m := lM) (Finset.subset_univ _)) $$ Hl; iintro Hl
  iapply (wp_store 𝒱₀ (c : Thread nD τ) none Set.univ (m := lM) (r := Rect.unit (s := S4096x1) ![0, 0] S4096x1.size inb_S4096x1_S4096x1_0_0) (Mk := Finset.univ) (Finset.subset_univ _)) $$ Hl; iintro Hl
  rw [show qM.view.readAt (Elt F) (Rect.unit (s := S4096x256) ![0, 0] S4096x256.size inb_S4096x256_S4096x256_0_0).toLoadRect Qv = Qv from Memref.readAt_unit_zero (Elt F) cc0_stg0_0 hz2 _ Qv,
    show (qbM.access (Rect.unit (s := S4096x256) ![0, 0] S4096x256.size inb_S4096x256_S4096x256_0_0) : View sig .tc _ _ _).write (Elt F) f1 (k0_pay42 Qv) Finset.univ = qb Qv from Memref.write_access_unit_zero_univ (Elt F) cc0_scratch0 hz2 _ f1 _,
    show (oM.access (Rect.unit (s := S4096x256) ![0, 0] S4096x256.size inb_S4096x256_S4096x256_0_0) : View sig .tc _ _ _).write (Elt F) f2 k0_pay48 Finset.univ = k0_pay48 (F := F) from Memref.write_access_unit_zero_univ (Elt F) cc0_stg3_0 hz2 _ f2 _,
    show (lM.access (Rect.unit (s := S4096x1) ![0, 0] S4096x1.size inb_S4096x1_S4096x1_0_0) : View sig .tc _ _ _).write (Elt F) f3 k0_pay49 Finset.univ = k0_pay49 (F := F) from Memref.write_access_unit_zero_univ (Elt F) cc0_scratch3 hz2 _ f3 _]
  iapply Hk
  isplitl [Hq]; · iexact Hq
  isplitl [Hkk]; · iexact Hkk
  isplitl [Hv]; · iexact Hv
  isplitl [Hb]; · iexact Hb
  isplitl [Ho]; · iexact Ho
  isplitl [Hl]; · iexact Hl
  isplitl [Ha Hb2]; · isplitl [Ha] <;> iassumption
  isplitl [Hc] <;> iassumption

/-! ### A hop's loop -/

section Loop

variable (Qb : qbM.view.ty.Contents (Elt F)) (X : Bool → Bool → Vec F S2048x256 .bf16)

/-- The output block after one trip, -/
def oStep (t : Fin k0_t1_loop.trips) (O : oM.view.ty.Contents (Elt F)) : oM.view.ty.Contents (Elt F) :=
  (oM.access (rowsR t) : View sig .tc _ _ _).write (Elt F) O
    (k0_pay50 (k0_pay3 (qbM.view.readAt (Elt F) (rowsR t).toLoadRect Qb) (oM.view.readAt (Elt F) (rowsR t).toLoadRect O) (up (X true false)) (up (X true true)))
      (k0_pay6 (qbM.view.readAt (Elt F) (rowsR t).toLoadRect Qb) (up (X false false))) (up (X false true))) Finset.univ
/-- and the column of denominators. -/
def lStep (t : Fin k0_t1_loop.trips) (D : lM.view.ty.Contents (Elt F)) : lM.view.ty.Contents (Elt F) :=
  (lM.access (colR t) : View sig .tc _ _ _).write (Elt F) D
    (k0_pay51 (k0_pay5 (qbM.view.readAt (Elt F) (rowsR t).toLoadRect Qb) (lM.view.readAt (Elt F) (colR t).toLoadRect D) (up (X true false)) (up (X false false)))) Finset.univ

/-- `n` steps of a loop of `m` trips. -/
def steps {A : Type} {m : ℕ} (f : Fin m → A → A) : ℕ → A → A
  | 0, a => a
  | n + 1, a => if h : n < m then f ⟨n, h⟩ (steps f n a) else steps f n a

theorem steps_succ {A : Type} {m : ℕ} (f : Fin m → A → A) (t : Fin m) (a : A) : steps f (t.val + 1) a = f t (steps f t.val a) := by
  rw [steps, dif_pos t.isLt]

/-- What a loop's trips read and write. -/
def loopRes (c : Dev nD) (s : Fin 3) (q : PosShare TreeShare) (O : oM.view.ty.Contents (Elt F)) (D : lM.view.ty.Contents (Elt F)) : sProp 𝕄 :=
  iprop((qbM.view.loc (c : Thread nD τ) ↦{fullShare} Qb) ∗ (oM.view.loc (c : Thread nD τ) ↦{fullShare} O) ∗ (lM.view.loc (c : Thread nD τ) ↦{fullShare} D)
    ∗ (owns (c : Thread nD τ) (slot true false s) q (X true false) ∗ owns (c : Thread nD τ) (slot true true s) q (X true true))
    ∗ owns (c : Thread nD τ) (slot false false s) q (X false false) ∗ owns (c : Thread nD τ) (slot false true s) q (X false true))

set_option maxHeartbeats 800000 in
theorem wp_tripP (c : Dev nD) (s : Fin 3) (q : PosShare TreeShare) (t : Fin k0_t1_loop.trips) (u : Unit) (O : oM.view.ty.Contents (Elt F)) (D : lM.view.ty.Contents (Elt F)) :
    loopRes Qb X c s q O D ⊢ wpc c (tripP s t u) (fun _ => loopRes Qb X c s q (oStep Qb X t O) (lStep Qb X t D)) := by
  unfold tripP loopRes
  simp only [Prog.lift, Prog.bind_op, Prog.bind_ret]
  iintro ⟨Hq, Ho, Hl, ⟨H1, H2⟩, ⟨H3, H4⟩⟩
  iapply (wp_load 𝒱₀ (c : Thread nD τ) none Set.univ (m := qbM) (Finset.subset_univ _)) $$ Hq; iintro Hq
  iapply (wp_load 𝒱₀ (c : Thread nD τ) none Set.univ (m := oM) (Finset.subset_univ _)) $$ Ho; iintro Ho
  iapply (wp_load 𝒱₀ (c : Thread nD τ) none Set.univ (m := lM) (Finset.subset_univ _)) $$ Hl; iintro Hl
  iapply (wp_load_slot c true false s q (X true false)) $$ H1; iintro H1
  iapply (wp_load_slot c true true s q (X true true)) $$ H2; iintro H2
  iapply (wp_load_slot c false false s q (X false false)) $$ H3; iintro H3
  iapply (wp_load_slot c false true s q (X false true)) $$ H4; iintro H4
  iapply (wp_load 𝒱₀ (c : Thread nD τ) none Set.univ (m := oM) (Finset.subset_univ _)) $$ Ho; iintro Ho
  iapply (wp_store 𝒱₀ (c : Thread nD τ) none Set.univ (m := oM) (r := rowsR t) (Mk := Finset.univ) (Finset.subset_univ _)) $$ Ho; iintro Ho
  iapply (wp_load 𝒱₀ (c : Thread nD τ) none Set.univ (m := lM) (Finset.subset_univ _)) $$ Hl; iintro Hl
  iapply (wp_store 𝒱₀ (c : Thread nD τ) none Set.univ (m := lM) (r := colR t) (Mk := Finset.univ) (Finset.subset_univ _)) $$ Hl; iintro Hl
  rw [wp_ret]; imodintro
  unfold oStep lStep
  isplitl [Hq]; · iexact Hq
  isplitl [Ho]; · iexact Ho
  isplitl [Hl]; · iexact Hl
  isplitl [H1 H2]; · isplitl [H1] <;> iassumption
  isplitl [H3] <;> iassumption

theorem wp_loopP (c : Dev nD) (s : Fin 3) (q : PosShare TreeShare) (O : oM.view.ty.Contents (Elt F)) (D : lM.view.ty.Contents (Elt F))
    {α : Type} {Q : α → sProp 𝕄} {k : PUnit → P F α} :
    loopRes Qb X c s q O D
      ⊢ iprop((loopRes Qb X c s q (steps (oStep Qb X) k0_t1_loop.trips O) (steps (lStep Qb X) k0_t1_loop.trips D) -∗ wpc c (k ⟨⟩) Q)
          -∗ wpc c (loopP s >>= k) Q) := by
  unfold loopP
  iintro H Hk
  iapply (show loopRes Qb X c s q O D
      ⊢ iprop((∀ u : Unit, loopRes Qb X c s q (steps (oStep Qb X) k0_t1_loop.trips O) (steps (lStep Qb X) k0_t1_loop.trips D) -∗ wpc c (k u) Q)
        -∗ wpc c (Scf.Loop.for k0_t1_loop k0_t1_ok ⟨⟩ (tripP s) >>= k) Q) from Scf.wp_for_bind _ _ _ _ _ _ _ _ (tripP s)
    (fun n _ => loopRes Qb X c s q (steps (oStep Qb X) n O) (steps (lStep Qb X) n D))
    (fun t u => by
      have h := wp_tripP Qb X c s q t u (steps (oStep Qb X) t.val O) (steps (lStep Qb X) t.val D)
      rwa [← steps_succ (oStep Qb X) t O, ← steps_succ (lStep Qb X) t D] at h)) $$ H
  iintro %u H
  iapply Hk; iexact H

end Loop

/-! ### The closing loop -/

/-- The rows of one closing trip. -/
abbrev rowsN (t : Fin k0_t9_loop.trips) : Rect S4096x256 :=
  Rect.unit (s := S4096x256) (k0_off17 t) S512x256.size (k0_off17_inb t)
abbrev colN (t : Fin k0_t9_loop.trips) : Rect S4096x1 :=
  Rect.unit (s := S4096x1) (k0_off18 t) S512x1.size (k0_off18_inb t)

/-- The output block after one closing trip. -/
def nStep (D : lM.view.ty.Contents (Elt F)) (t : Fin k0_t9_loop.trips) (O : oM.view.ty.Contents (Elt F)) : oM.view.ty.Contents (Elt F) :=
  (oM.access (rowsN t) : View sig .tc _ _ _).write (Elt F) O
    (k0_pay1 (oM.view.readAt (Elt F) (rowsN t).toLoadRect O) (lM.view.readAt (Elt F) (colN t).toLoadRect D)) Finset.univ

theorem wp_normTripP (c : Dev nD) (t : Fin k0_t9_loop.trips) (u : Unit) (O : oM.view.ty.Contents (Elt F)) (D : lM.view.ty.Contents (Elt F)) :
    iprop((oM.view.loc (c : Thread nD τ) ↦{fullShare} O) ∗ (lM.view.loc (c : Thread nD τ) ↦{fullShare} D))
      ⊢ (wpc c (normTripP t u) (fun _ => iprop((oM.view.loc (c : Thread nD τ) ↦{fullShare} (nStep D t O)) ∗ (lM.view.loc (c : Thread nD τ) ↦{fullShare} D))) : sProp 𝕄) := by
  unfold normTripP
  simp only [Prog.lift, Prog.bind_op, Prog.bind_ret]
  iintro ⟨Ho, Hl⟩
  iapply (wp_load 𝒱₀ (c : Thread nD τ) none Set.univ (m := oM) (Finset.subset_univ _)) $$ Ho; iintro Ho
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_store 𝒱₀ (c : Thread nD τ) none Set.univ (m := oM) (r := rowsN t) (Mk := Finset.univ) (Finset.subset_univ _)) $$ Ho; iintro Ho
  rw [wp_ret]; imodintro
  unfold nStep
  isplitl [Ho] <;> iassumption

theorem wp_normP (c : Dev nD) (O : oM.view.ty.Contents (Elt F)) (D : lM.view.ty.Contents (Elt F))
    {α : Type} {Q : α → sProp 𝕄} {k : PUnit → P F α} :
    iprop((oM.view.loc (c : Thread nD τ) ↦{fullShare} O) ∗ (lM.view.loc (c : Thread nD τ) ↦{fullShare} D))
      ⊢ iprop((((oM.view.loc (c : Thread nD τ) ↦{fullShare} (steps (nStep D) k0_t9_loop.trips O)) ∗ (lM.view.loc (c : Thread nD τ) ↦{fullShare} D)) -∗ wpc c (k ⟨⟩) Q)
          -∗ wpc c (normP >>= k) Q) := by
  unfold normP
  iintro H Hk
  iapply (show iprop((oM.view.loc (c : Thread nD τ) ↦{fullShare} O) ∗ (lM.view.loc (c : Thread nD τ) ↦{fullShare} D))
      ⊢ iprop((∀ u : Unit, ((oM.view.loc (c : Thread nD τ) ↦{fullShare} (steps (nStep D) k0_t9_loop.trips O)) ∗ (lM.view.loc (c : Thread nD τ) ↦{fullShare} D)) -∗ wpc c (k u) Q)
        -∗ wpc c (Scf.Loop.for k0_t9_loop k0_t9_ok ⟨⟩ normTripP >>= k) Q) from Scf.wp_for_bind _ _ _ _ _ _ _ _ (normTripP (F := F))
    (fun n _ => iprop((oM.view.loc (c : Thread nD τ) ↦{fullShare} (steps (nStep D) n O)) ∗ (lM.view.loc (c : Thread nD τ) ↦{fullShare} D)))
    (fun t u => by
      have h := wp_normTripP c t u (steps (nStep D) t.val O) D
      rwa [← steps_succ (nStep D) t O] at h)) $$ H
  iintro %u H
  iapply Hk; iexact H

end Cert.Proof

end
-- ==== Proof.Hop.lean ====
/-
  One hop: a device passes on the slot it reads, adds that slot's halves, and lets go of it; the hops in a row.
-/
module

public import proofs.«01_k».proof.Proof.Data

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

variable (B : Bool → Bool → Dev nD → Vec F S2048x256 .bf16) (nm : Names)

/-! ### The hop's pieces, by number -/

def rP (h : ℕ) : P F PUnit := if h < 2 then pure ⟨⟩ else readyP
def wP (h : ℕ) : P F PUnit := if h = 0 then pure ⟨⟩ else recvVP (sl h)
def fP (c : Dev nD) (h : ℕ) : P F PUnit := if h < 5 then freeP (src true c) (src false c) else pure ⟨⟩
/-- A hop of device `c`. -/
def hopQ (c : Dev nD) (h : ℕ) : P F PUnit := hopP h (rP h) (wP h) (fP c h) (dst true c) (dst false c) (dst true c) (dst false c)
/-- The last `n` hops before the closing one. -/
def hopsQ (c : Dev nD) : ℕ → P F PUnit
  | 0 => pure ⟨⟩
  | n + 1 => do hopQ c (6 - n); hopsQ c n

/-! ### A side's state and supplies -/

def pos3S (c : Dev nD) (σ kv : Bool) (h : ℕ) : sProp 𝕄 := iprop(posS c σ kv h ∗ posS c σ kv (h + 1) ∗ posS c σ kv (h + 2))
def pos3R (c : Dev nD) (σ kv : Bool) (h : ℕ) : sProp 𝕄 := iprop(posR c σ kv h ∗ posR c σ kv (h + 1) ∗ posR c σ kv (h + 2))

/-- The slot of hop `h` filled. -/
abbrev full (c : Dev nD) (σ kv : Bool) (h : ℕ) : sProp 𝕄 := owns (c : Thread nD τ) (slot σ kv (sl h)) fullShare (held B c σ kv h)

/-- The `V` half of hop `h`'s slot: there from the start at hop 0, still under way at a later hop. -/
def vAt (c : Dev nD) (σ : Bool) : ℕ → sProp 𝕄
  | 0 => iprop(pos3R c σ true 0 ∗ full B c σ true 0)
  | h + 1 => pos3R c σ true h
/-- The claim to its arrival. -/
def vCred (c : Dev nD) (σ : Bool) : ℕ → sProp 𝕄
  | 0 => iprop(emp)
  | h + 1 => cred (tallyAt (rcvCell c σ true h) (10 * h + 4) N)

/-- What is known of the neighbour's slots. -/
def rdAt (c : Dev nD) (σ : Bool) (h : ℕ) : sProp 𝕄 := iprop(facts (F := F) (dst σ c) σ 2 ∗ rdySt (F := F) c σ (h - 2))
/-- The claim to a ready signal. -/
def rdCred (c : Dev nD) (σ : Bool) (h : ℕ) : sProp 𝕄 := if h < 2 then iprop(emp) else cred (tallyAt (rdyCell c σ) (10 * (h - 2) + 8) 1)

/-- What was freed, and what is kept of the slots that no later hop writes. -/
def kept (c : Dev nD) (σ : Bool) (h : ℕ) : sProp 𝕄 :=
  iprop((if h < 5 then facts (F := F) c σ (h + 2) else iprop(emp)) ∗ bigSep (Finset.Ico 5 h) fun j => anyPair (F := F) c σ (sl j))
/-- What a free signal takes. -/
def freeRes (c : Dev nD) (σ : Bool) (h : ℕ) : sProp 𝕄 :=
  if hh : h < 5 then iprop(Release.readerAt (EL (F := F)) (c, σ, (⟨h + 2, by omega⟩ : Fin 7)) 0
    ∗ dutyTok (ER (F := F)) (rdyCell (src σ c) σ) 0 h ∗ reached (ER (F := F)) (rdyCell (src σ c) σ) 0) else iprop(emp)

/-- A side before hop `h`. -/
def sideAt (c : Dev nD) (σ : Bool) (h : ℕ) : sProp 𝕄 :=
  iprop(pos3S c σ false h ∗ pos3S c σ true h ∗ pos3R c σ false h ∗ vAt B c σ h ∗ full B c σ false h ∗ rdAt c σ h ∗ kept c σ h)
/-- What hop `h` uses up of a side. -/
def sideRes (c : Dev nD) (σ : Bool) (h : ℕ) (hh : h < 7) : sProp 𝕄 :=
  iprop(rdCred (F := F) c σ h ∗ Release.writeTok (EL (F := F)) (dst σ c, σ, (⟨h, hh⟩ : Fin 7)) 1 ∗ toks c σ false h ∗ toks c σ true h
    ∗ cred (tallyAt (rcvCell c σ false h) (10 * h + 2) N) ∗ vCred (F := F) c σ h ∗ freeRes c σ h)

/-! ### The waits for free slots -/

theorem wp_rP (c : Dev nD) {h : ℕ} (hh : h < 7) {l : List Due} (hl : 2 ≤ h → Below (10 * (h - 2) + 8) l)
    {α : Type} {Q : α → sProp 𝕄} {k : PUnit → P F α} :
    iprop(recs B nm ∗ ow c l ∗ (rdAt c true h ∗ rdCred c true h) ∗ (rdAt c false h ∗ rdCred c false h))
      ⊢ iprop(((ow c l ∗ (rdAt c true (h + 1) ∗ fact (dst true c) true h) ∗ (rdAt c false (h + 1) ∗ fact (dst false c) false h)) -∗ wpc c (k ⟨⟩) Q)
          -∗ wpc c (rP h >>= k) Q) := by
  unfold rP rdCred rdAt
  rcases Nat.lt_or_ge h 2 with h2 | h2
  · simp only [if_pos h2, pure_bind]
    iintro ⟨#HI, HO, ⟨⟨#Hf, Hr⟩, -⟩, ⟨⟨#Hf', Hr'⟩, -⟩⟩ Hk
    iapply Hk
    isplitl [HO]; · iexact HO
    rw [show h + 1 - 2 = h - 2 by omega]
    isplitl [Hr]
    · isplitl [Hr]
      · isplitr; · iexact Hf
        iexact Hr
      iapply (facts_elim (dst true c) true h2) $$ Hf
    · isplitl [Hr']
      · isplitr; · iexact Hf'
        iexact Hr'
      iapply (facts_elim (dst false c) false h2) $$ Hf'
  · simp only [if_neg (Nat.not_lt.mpr h2)]
    obtain ⟨j, rfl⟩ : ∃ j, h = j + 2 := ⟨h - 2, by omega⟩
    unfold readyP
    have hl := hl h2
    rw [show j + 2 - 2 = j by omega] at hl
    rw [show j + 2 - 2 = j by omega, show j + 2 + 1 - 2 = j + 1 by omega]
    simp only [bind_assoc]
    iintro ⟨#HI, HO, ⟨⟨#Hf, Hr⟩, Hc⟩, ⟨⟨#Hf', Hr'⟩, Hc'⟩⟩ Hk
    iapply (wp_waitReady B nm c true (by omega) hl) $$ [HO Hr Hc]
    · isplitr; · iexact HI
      isplitl [Hc]; · iexact Hc
      isplitl [HO] <;> iassumption
    iintro ⟨HO, Hr, Hx⟩
    iapply (wp_waitReady B nm c false (by omega) hl) $$ [HO Hr' Hc']
    · isplitr; · iexact HI
      isplitl [Hc']; · iexact Hc'
      isplitl [HO] <;> iassumption
    iintro ⟨HO, Hr', Hx'⟩
    iapply Hk
    isplitl [HO]; · iexact HO
    isplitl [Hr Hx]
    · isplitl [Hr]
      · isplitr; · iexact Hf
        iexact Hr
      iexact Hx
    · isplitl [Hr']
      · isplitr; · iexact Hf'
        iexact Hr'
      iexact Hx'

/-! ### The transfers -/

/-- The waits for the arriving `V`s. -/
theorem wp_wP (c : Dev nD) {h : ℕ} (hh : h ≤ 7) {l : List Due} (hl : 0 < h → Below (10 * (h - 1) + 4) l)
    {α : Type} {Q : α → sProp 𝕄} {k : PUnit → P F α} :
    iprop(recs B nm ∗ ow c l ∗ (vAt B c true h ∗ vCred c true h) ∗ (vAt B c false h ∗ vCred c false h))
      ⊢ iprop(((ow c l ∗ (pos3R c true true h ∗ full B c true true h) ∗ (pos3R c false true h ∗ full B c false true h)) -∗ wpc c (k ⟨⟩) Q)
          -∗ wpc c (wP h >>= k) Q) := by
  unfold wP
  rcases h with _ | h
  · simp only [if_pos, pure_bind]
    unfold vAt vCred
    iintro ⟨#HI, HO, ⟨H, -⟩, ⟨H', -⟩⟩ Hk
    iapply Hk
    isplitl [HO]; · iexact HO
    isplitl [H] <;> iassumption
  · rw [if_neg (Nat.succ_ne_zero h)]
    unfold vAt vCred recvVP pos3R
    have hl := hl (Nat.succ_pos h)
    rw [show h + 1 - 1 = h by omega] at hl
    simp only [bind_assoc]
    iintro ⟨#HI, HO, ⟨⟨H0, H1, H2⟩, Hc⟩, ⟨⟨H0', H1', H2'⟩, Hc'⟩⟩ Hk
    iapply (wp_waitRecvP B nm c true true (h := h) (by omega) (by omega) hl) $$ [HO H0 Hc]
    · isplitr; · iexact HI
      isplitl [Hc]; · iexact Hc
      isplitl [HO] <;> iassumption
    iintro ⟨HO, H0, Hs⟩
    iapply (wp_waitRecvP B nm c false true (h := h) (by omega) (by omega) hl) $$ [HO H0' Hc']
    · isplitr; · iexact HI
      isplitl [Hc']; · iexact Hc'
      isplitl [HO] <;> iassumption
    iintro ⟨HO, H0', Hs'⟩
    iapply Hk
    isplitl [HO]; · iexact HO
    isplitl [H0 H1 H2 Hs]
    · isplitl [H0 H1 H2]
      · isplitl [H1]; · iexact H1
        isplitl [H2]; · iexact H2
        iexact H0
      iexact Hs
    · isplitl [H0' H1' H2']
      · isplitl [H1']; · iexact H1'
        isplitl [H2']; · iexact H2'
        iexact H0'
      iexact Hs'

/-- What the transfers of a side need, -/
def sIn (c : Dev nD) (σ : Bool) (h : ℕ) : sProp 𝕄 :=
  iprop(full B c σ false h ∗ anyPair (F := F) (dst σ c) σ (sl (h + 1)) ∗ fact (F := F) (dst σ c) σ h ∗ (toks c σ false h ∗ toks c σ true h)
    ∗ (posS c σ false h ∗ posS c σ true h) ∗ vAt B c σ h ∗ vCred c σ h)
/-- and what they leave of each: the claim that the source has been read, and the half that was not lent. -/
def flight (c : Dev nD) (σ kv : Bool) (h : ℕ) : sProp 𝕄 :=
  iprop(cred (tallyAt (sndCell c σ kv h) 0 N) ∗ posS c σ kv h ∗ owns (c : Thread nD τ) (slot σ kv (sl h)) fullShare.left (held B c σ kv h))

set_option maxHeartbeats 1600000 in
theorem wp_sendsP (c : Dev nD) {h : ℕ} (hh : h < 7) {l : List Due} (hl : 0 < h → Below (10 * (h - 1) + 4) (vPay c true h :: vPay c false h :: l))
    {α : Type} {Q : α → sProp 𝕄} {k : PUnit → P F α} :
    iprop(recs B nm ∗ ow c (kPay c true h :: kPay c false h :: vPay c true h :: vPay c false h :: l) ∗ sIn B c true h ∗ sIn B c false h)
      ⊢ iprop(((ow c l ∗ (flight B c true false h ∗ flight B c true true h ∗ pos3R c true true h)
            ∗ (flight B c false false h ∗ flight B c false true h ∗ pos3R c false true h)) -∗ wpc c (k ⟨⟩) Q)
          -∗ wpc c (sendsP (sl h) (sl (h + 1)) (wP h) (dst true c) (dst false c) (dst true c) (dst false c) >>= k) Q) := by
  unfold sendsP sIn anyPair
  simp only [bind_assoc]
  iintro ⟨#HI, HO, ⟨Hs, ⟨Ha, Hb⟩, #Hf, ⟨Ht, Htv⟩, ⟨Hp, Hpv⟩, HV⟩, ⟨Hs', ⟨Ha', Hb'⟩, #Hf', ⟨Ht', Htv'⟩, ⟨Hp', Hpv'⟩, HV'⟩⟩ Hk
  iapply (wp_sendP B nm c true false hh rfl (10 * h + 2) (kPay c false h :: vPay c true h :: vPay c false h :: l)) $$ [HO Hs Ha Ht Hp]
  · isplitr; · iexact HI
    isplitl [Hs]; · iexact Hs
    isplitl [Ha]; · iexact Ha
    isplitl [HO]; · iexact HO
    isplitl [Ht]; · iexact Ht
    isplitl [Hp]; · iexact Hp
    iapply (fact_reached (dst true c) true false h) $$ Hf
  iintro ⟨Hc, HO, Hp, Hs⟩
  iapply (wp_sendP B nm c false false hh rfl (10 * h + 2) (vPay c true h :: vPay c false h :: l)) $$ [HO Hs' Ha' Ht' Hp']
  · isplitr; · iexact HI
    isplitl [Hs']; · iexact Hs'
    isplitl [Ha']; · iexact Ha'
    isplitl [HO]; · iexact HO
    isplitl [Ht']; · iexact Ht'
    isplitl [Hp']; · iexact Hp'
    iapply (fact_reached (dst false c) false false h) $$ Hf'
  iintro ⟨Hc', HO, Hp', Hs'⟩
  iapply (wp_wP B nm c (h := h) (by omega) hl) $$ [HO HV HV']
  · isplitr; · iexact HI
    isplitl [HO]; · iexact HO
    isplitl [HV] <;> iassumption
  iintro ⟨HO, ⟨Hr, Hv⟩, ⟨Hr', Hv'⟩⟩
  iapply (wp_sendP B nm c true true hh rfl (10 * h + 4) (vPay c false h :: l)) $$ [HO Hv Hb Htv Hpv]
  · isplitr; · iexact HI
    isplitl [Hv]; · iexact Hv
    isplitl [Hb]; · iexact Hb
    isplitl [HO]; · iexact HO
    isplitl [Htv]; · iexact Htv
    isplitl [Hpv]; · iexact Hpv
    iapply (fact_reached (dst true c) true true h) $$ Hf
  iintro ⟨Hcv, HO, Hpv, Hv⟩
  iapply (wp_sendP B nm c false true hh rfl (10 * h + 4) l) $$ [HO Hv' Hb' Htv' Hpv']
  · isplitr; · iexact HI
    isplitl [Hv']; · iexact Hv'
    isplitl [Hb']; · iexact Hb'
    isplitl [HO]; · iexact HO
    isplitl [Htv']; · iexact Htv'
    isplitl [Hpv']; · iexact Hpv'
    iapply (fact_reached (dst false c) false true h) $$ Hf'
  iintro ⟨Hcv', HO, Hpv', Hv'⟩
  iapply Hk
  unfold flight
  isplitl [HO]; · iexact HO
  isplitl [Hc Hp Hs Hcv Hpv Hv Hr]
  · isplitl [Hc Hp Hs]
    · isplitl [Hc]; · iexact Hc
      isplitl [Hp] <;> iassumption
    isplitl [Hcv Hpv Hv]
    · isplitl [Hcv]; · iexact Hcv
      isplitl [Hpv] <;> iassumption
    iexact Hr
  · isplitl [Hc' Hp' Hs']
    · isplitl [Hc']; · iexact Hc'
      isplitl [Hp'] <;> iassumption
    isplitl [Hcv' Hpv' Hv']
    · isplitl [Hcv']; · iexact Hcv'
      isplitl [Hpv'] <;> iassumption
    iexact Hr'

/-! ### The waits at a hop's end -/

/-- The arriving `K`'s claim, and the position at its cell. -/
def kIn (c : Dev nD) (σ : Bool) (h : ℕ) : sProp 𝕄 := iprop(cred (tallyAt (rcvCell c σ false h) (10 * h + 2) N) ∗ posR c σ false h)
/-- A side after the waits. -/
def settled (c : Dev nD) (σ : Bool) (h : ℕ) : sProp 𝕄 :=
  iprop((posS c σ false (h + 3) ∗ posS c σ true (h + 3)) ∗ anyPair (F := F) c σ (sl h) ∗ posR c σ false (h + 3) ∗ full B c σ false (h + 1))

set_option maxHeartbeats 1600000 in
theorem wp_settleP (c : Dev nD) {h : ℕ} (hh : h < 7) {l : List Due} (hl : Below (10 * h + 2) l)
    {α : Type} {Q : α → sProp 𝕄} {k : PUnit → P F α} :
    iprop(recs B nm ∗ ow c l ∗ (flight B c true false h ∗ flight B c true true h ∗ kIn c true h)
        ∗ (flight B c false false h ∗ flight B c false true h ∗ kIn c false h))
      ⊢ iprop(((ow c l ∗ settled B c true h ∗ settled B c false h) -∗ wpc c (k ⟨⟩) Q)
          -∗ wpc c (settleP (sl h) (sl (h + 1)) >>= k) Q) := by
  unfold settleP kIn flight settled anyPair
  simp only [bind_assoc]
  have h0 : Below 0 l := hl.mono (by omega)
  iintro ⟨#HI, HO, ⟨⟨Hc1, Hp1, Hs1⟩, ⟨Hc2, Hp2, Hs2⟩, ⟨Hk1, Hr1⟩⟩, ⟨⟨Hc3, Hp3, Hs3⟩, ⟨Hc4, Hp4, Hs4⟩, ⟨Hk2, Hr2⟩⟩⟩ Hk
  iapply (wp_waitSendP B nm c true false hh (sl (h + 1)) h0) $$ [HO Hc1 Hp1 Hs1]
  · isplitr; · iexact HI
    isplitl [Hc1]; · iexact Hc1
    isplitl [HO]; · iexact HO
    isplitl [Hp1] <;> iassumption
  iintro ⟨HO, Hp1, Hs1⟩
  iapply (wp_waitSendP B nm c false false hh (sl (h + 1)) h0) $$ [HO Hc3 Hp3 Hs3]
  · isplitr; · iexact HI
    isplitl [Hc3]; · iexact Hc3
    isplitl [HO]; · iexact HO
    isplitl [Hp3] <;> iassumption
  iintro ⟨HO, Hp3, Hs3⟩
  iapply (wp_waitSendP B nm c true true hh (sl (h + 1)) h0) $$ [HO Hc2 Hp2 Hs2]
  · isplitr; · iexact HI
    isplitl [Hc2]; · iexact Hc2
    isplitl [HO]; · iexact HO
    isplitl [Hp2] <;> iassumption
  iintro ⟨HO, Hp2, Hs2⟩
  iapply (wp_waitSendP B nm c false true hh (sl (h + 1)) h0) $$ [HO Hc4 Hp4 Hs4]
  · isplitr; · iexact HI
    isplitl [Hc4]; · iexact Hc4
    isplitl [HO]; · iexact HO
    isplitl [Hp4] <;> iassumption
  iintro ⟨HO, Hp4, Hs4⟩
  iapply (wp_waitRecvP B nm c true false hh (by omega) hl) $$ [HO Hk1 Hr1]
  · isplitr; · iexact HI
    isplitl [Hk1]; · iexact Hk1
    isplitl [HO] <;> iassumption
  iintro ⟨HO, Hr1, Hf1⟩
  iapply (wp_waitRecvP B nm c false false hh (by omega) hl) $$ [HO Hk2 Hr2]
  · isplitr; · iexact HI
    isplitl [Hk2]; · iexact Hk2
    isplitl [HO] <;> iassumption
  iintro ⟨HO, Hr2, Hf2⟩
  iapply Hk
  isplitl [HO]; · iexact HO
  isplitl [Hp1 Hp2 Hs1 Hs2 Hr1 Hf1]
  · isplitl [Hp1 Hp2]; · isplitl [Hp1] <;> iassumption
    isplitl [Hs1 Hs2]; · isplitl [Hs1] <;> iassumption
    isplitl [Hr1] <;> iassumption
  · isplitl [Hp3 Hp4]; · isplitl [Hp3] <;> iassumption
    isplitl [Hs3 Hs4]; · isplitl [Hs3] <;> iassumption
    isplitl [Hr2] <;> iassumption

/-! ### The free signals -/

theorem posR_reached (c : Dev nD) (σ kv : Bool) (h : ℕ) : posR (F := F) c σ kv h ⊢ reached (ER (F := F)) (rcvCell c σ kv h) (h / 3) := by
  unfold posR; iintro ⟨-, H⟩; iexact H

/-- What lets the slot of hop `h` go, a side's. -/
def fIn (c : Dev nD) (σ : Bool) (h : ℕ) : sProp 𝕄 :=
  iprop(kept (F := F) c σ h ∗ freeRes c σ h ∗ anyPair (F := F) c σ (sl h)
    ∗ reached (ER (F := F)) (rcvCell c σ false (h + 2)) ((h + 2) / 3) ∗ reached (ER (F := F)) (rcvCell c σ true (h + 2)) ((h + 2) / 3))

set_option maxHeartbeats 800000 in
theorem wp_fP (c : Dev nD) {h : ℕ} (hh : h < 7) {l : List Due} {α : Type} {Q : α → sProp 𝕄} {k : PUnit → P F α} :
    iprop(recs B nm ∗ ow c (gPays c h ++ l) ∗ fIn c true h ∗ fIn c false h)
      ⊢ iprop(((ow c l ∗ kept c true (h + 1) ∗ kept c false (h + 1)) -∗ wpc c (k ⟨⟩) Q) -∗ wpc c (fP c h >>= k) Q) := by
  unfold fP gPays fIn
  rcases Nat.lt_or_ge h 5 with h5 | h5
  · have hk : ∀ σ, iprop(facts (F := F) c σ (h + 3)) ⊢ kept (F := F) c σ (h + 1) := fun σ => by
      unfold kept
      rw [Finset.Ico_eq_empty (by omega), bigSep_empty]
      iintro #H
      isplitl
      · split
        · iexact H
        · iempintro
      · iempintro
    have he : ∀ σ, kept (F := F) c σ h ⊢ facts (F := F) c σ (h + 2) := fun σ => by
      unfold kept; rw [if_pos h5]; iintro ⟨H, -⟩; iexact H
    unfold freeRes freeP
    rw [dif_pos h5, dif_pos h5]
    simp only [if_pos h5, bind_assoc, List.cons_append, List.nil_append]
    iintro ⟨#HI, HO, ⟨Hk1, ⟨Hr1, Ht1, #He1⟩, Hp1, #Ha1, #Hb1⟩, ⟨Hk2, ⟨Hr2, Ht2, #He2⟩, Hp2, #Ha2, #Hb2⟩⟩ Hk
    ihave Hk1 := he true $$ Hk1
    ihave Hk2 := he false $$ Hk2
    iapply (wp_free B nm c true h5 rfl) $$ [HO Hr1 Hp1 Ht1 Hk1]
    · isplitr; · iexact HI
      isplitl [Hr1]; · iexact Hr1
      isplitl [Hp1]; · iexact Hp1
      isplitr; · iexact Ha1
      isplitr; · iexact Hb1
      isplitl [Hk1]; · iexact Hk1
      isplitl [HO]; · iexact HO
      isplitl [Ht1]; · iexact Ht1
      iexact He1
    iintro ⟨HO, Hf1⟩
    iapply (wp_free B nm c false h5 rfl) $$ [HO Hr2 Hp2 Ht2 Hk2]
    · isplitr; · iexact HI
      isplitl [Hr2]; · iexact Hr2
      isplitl [Hp2]; · iexact Hp2
      isplitr; · iexact Ha2
      isplitr; · iexact Hb2
      isplitl [Hk2]; · iexact Hk2
      isplitl [HO]; · iexact HO
      isplitl [Ht2]; · iexact Ht2
      iexact He2
    iintro ⟨HO, Hf2⟩
    iapply Hk
    isplitl [HO]; · iexact HO
    isplitl [Hf1]; · iapply (hk true) $$ Hf1
    iapply (hk false) $$ Hf2
  · have hk : ∀ σ, iprop(kept (F := F) c σ h ∗ anyPair (F := F) c σ (sl h)) ⊢ kept (F := F) c σ (h + 1) := fun σ => by
      unfold kept
      rw [if_neg (by omega), if_neg (by omega), show (bigSep (Finset.Ico 5 (h + 1)) fun j => anyPair (F := F) c σ (sl j))
          = iprop(anyPair (F := F) c σ (sl h) ∗ bigSep (Finset.Ico 5 h) fun j => anyPair (F := F) c σ (sl j)) by
        rw [show Finset.Ico 5 (h + 1) = insert h (Finset.Ico 5 h) from (Finset.insert_Ico_right_eq_Ico_add_one h5).symm, bigSep_insert (by simp)]
        rfl]
      iintro ⟨⟨-, Hk⟩, Hp⟩
      isplitr; · iempintro
      isplitl [Hp] <;> iassumption
    simp only [if_neg (Nat.not_lt.mpr h5), pure_bind, List.nil_append]
    iintro ⟨#HI, HO, ⟨Hk1, -, Hp1, -, -⟩, ⟨Hk2, -, Hp2, -, -⟩⟩ Hk
    iapply Hk
    isplitl [HO]; · iexact HO
    isplitl [Hk1 Hp1]
    · iapply (hk true) $$ [Hk1 Hp1]; isplitl [Hk1] <;> iassumption
    · iapply (hk false) $$ [Hk2 Hp2]; isplitl [Hk2] <;> iassumption

/-! ### A hop -/

variable (Qb : qbM.view.ty.Contents (Elt F))

/-- The output block and the column of denominators before hop `h`. -/
def oAt (c : Dev nD) : ℕ → oM.view.ty.Contents (Elt F)
  | 0 => k0_pay48 (F := F)
  | h + 1 => steps (oStep Qb fun σ kv => held B c σ kv h) k0_t1_loop.trips (oAt c h)
@[inherit_doc oAt] def lAt (c : Dev nD) : ℕ → lM.view.ty.Contents (Elt F)
  | 0 => k0_pay49 (F := F)
  | h + 1 => steps (lStep Qb fun σ kv => held B c σ kv h) k0_t1_loop.trips (lAt c h)

/-- The local buffers before hop `h`. -/
def accAt (c : Dev nD) (h : ℕ) : sProp 𝕄 :=
  iprop((qbM.view.loc (c : Thread nD τ) ↦{fullShare} Qb) ∗ (oM.view.loc (c : Thread nD τ) ↦{fullShare} oAt B Qb c h)
    ∗ (lM.view.loc (c : Thread nD τ) ↦{fullShare} lAt B Qb c h))

set_option maxHeartbeats 400000 in
/-- A hop's loop, on the halves that were not lent. -/
theorem wp_hopLoop (c : Dev nD) (h : ℕ) {α : Type} {Q : α → sProp 𝕄} {k : PUnit → P F α} :
    iprop(accAt B Qb c h ∗ (flight B c true false h ∗ flight B c true true h) ∗ (flight B c false false h ∗ flight B c false true h))
      ⊢ iprop(((accAt B Qb c (h + 1) ∗ (flight B c true false h ∗ flight B c true true h) ∗ (flight B c false false h ∗ flight B c false true h)) -∗ wpc c (k ⟨⟩) Q)
          -∗ wpc c (loopP (sl h) >>= k) Q) := by
  unfold accAt flight
  iintro ⟨⟨Hq, Ho, Hl⟩, ⟨⟨Hc1, Hp1, Hs1⟩, ⟨Hc2, Hp2, Hs2⟩⟩, ⟨Hc3, Hp3, Hs3⟩, ⟨Hc4, Hp4, Hs4⟩⟩ Hk
  have hl := wp_loopP Qb (fun σ kv => held B c σ kv h) c (sl h) fullShare.left (oAt B Qb c h) (lAt B Qb c h) (Q := Q) (k := k)
  unfold loopRes at hl
  beta_reduce at hl
  iapply hl $$ [Hq Ho Hl Hs1 Hs2 Hs3 Hs4]
  · isplitl [Hq]; · iexact Hq
    isplitl [Ho]; · iexact Ho
    isplitl [Hl]; · iexact Hl
    isplitl [Hs1 Hs2]; · isplitl [Hs1] <;> iassumption
    isplitl [Hs3] <;> iassumption
  iintro ⟨Hq, Ho, Hl, ⟨Hs1, Hs2⟩, ⟨Hs3, Hs4⟩⟩
  iapply Hk
  isplitl [Hq Ho Hl]
  · isplitl [Hq]; · iexact Hq
    isplitl [Ho]; · iexact Ho
    iexact Hl
  isplitl [Hc1 Hp1 Hs1 Hc2 Hp2 Hs2]
  · isplitl [Hc1 Hp1 Hs1]
    · isplitl [Hc1]; · iexact Hc1
      isplitl [Hp1] <;> iassumption
    · isplitl [Hc2]; · iexact Hc2
      isplitl [Hp2] <;> iassumption
  · isplitl [Hc3 Hp3 Hs3]
    · isplitl [Hc3]; · iexact Hc3
      isplitl [Hp3] <;> iassumption
    · isplitl [Hc4]; · iexact Hc4
      isplitl [Hp4] <;> iassumption

/-- What a hop's transfers leave alone of a side. -/
def rest (c : Dev nD) (σ : Bool) (h : ℕ) : sProp 𝕄 :=
  iprop(((posS (F := F) c σ false (h + 1) ∗ posS c σ false (h + 2)) ∗ (posS c σ true (h + 1) ∗ posS c σ true (h + 2)))
    ∗ ((posR (F := F) c σ false (h + 1) ∗ posR c σ false (h + 2)) ∗ kIn c σ h) ∗ kept c σ h ∗ freeRes c σ h)

/-- A side's state and supplies at a hop, sorted: what the ready waits take, what takes the slot, what the transfers take. -/
theorem side_open (c : Dev nD) (σ : Bool) {h : ℕ} (hh : h < 7) :
    iprop(sideAt B c σ h ∗ sideRes c σ h hh)
      ⊢ iprop((rdAt c σ h ∗ rdCred (F := F) c σ h) ∗ Release.writeTok (EL (F := F)) (dst σ c, σ, (⟨h, hh⟩ : Fin 7)) 1
        ∗ (full B c σ false h ∗ (toks c σ false h ∗ toks c σ true h) ∗ (posS c σ false h ∗ posS c σ true h) ∗ vAt B c σ h ∗ vCred c σ h)
        ∗ rest c σ h) := by
  unfold sideAt sideRes rest pos3S pos3R kIn
  iintro ⟨⟨⟨H1, H2, H3⟩, ⟨H4, H5, H6⟩, ⟨H7, H8, H9⟩, H10, H11, H12, H13⟩, H14, H15, H16, H17, H18, H19, H20⟩
  isplitl [H12 H14]; · isplitl [H12] <;> iassumption
  isplitl [H15]; · iexact H15
  isplitl [H11 H16 H17 H1 H4 H10 H19]
  · isplitl [H11]; · iexact H11
    isplitl [H16 H17]; · isplitl [H16] <;> iassumption
    isplitl [H1 H4]; · isplitl [H1] <;> iassumption
    isplitl [H10] <;> iassumption
  isplitl [H2 H3 H5 H6]
  · isplitl [H2 H3]; · isplitl [H2] <;> iassumption
    isplitl [H5] <;> iassumption
  isplitl [H7 H8 H9 H18]
  · isplitl [H8 H9]; · isplitl [H8] <;> iassumption
    isplitl [H18] <;> iassumption
  isplitl [H13] <;> iassumption

/-- A side's state after a hop, put together. -/
theorem side_close (c : Dev nD) (σ : Bool) (h : ℕ) :
    iprop(((posS (F := F) c σ false (h + 1) ∗ posS c σ false (h + 2)) ∗ (posS c σ true (h + 1) ∗ posS c σ true (h + 2)))
        ∗ (posR (F := F) c σ false (h + 1) ∗ posR c σ false (h + 2)) ∗ (posS c σ false (h + 3) ∗ posS c σ true (h + 3)) ∗ posR c σ false (h + 3)
        ∗ full B c σ false (h + 1) ∗ pos3R c σ true h ∗ rdAt c σ (h + 1) ∗ kept c σ (h + 1))
      ⊢ sideAt B c σ (h + 1) := by
  unfold sideAt pos3S
  rw [show vAt B c σ (h + 1) = pos3R c σ true h from rfl]
  iintro ⟨⟨⟨H1, H2⟩, H3, H4⟩, ⟨H5, H6⟩, ⟨H7, H8⟩, H9, H10, H11, H12, H13⟩
  isplitl [H1 H2 H7]
  · isplitl [H1]; · iexact H1
    isplitl [H2] <;> iassumption
  isplitl [H3 H4 H8]
  · isplitl [H3]; · iexact H3
    isplitl [H4] <;> iassumption
  isplitl [H5 H6 H9]
  · unfold pos3R
    isplitl [H5]; · iexact H5
    isplitl [H6] <;> iassumption
  isplitl [H11]; · iexact H11
  isplitl [H10]; · iexact H10
  isplitl [H12] <;> iassumption

set_option maxHeartbeats 1600000 in
/-- A hop before the last. -/
theorem wp_hopQ (c : Dev nD) {h : ℕ} (hh : h < 7) {α : Type} {Q : α → sProp 𝕄} {k : PUnit → P F α} :
    iprop(recs B nm ∗ ow c (paysFrom c h) ∗ accAt B Qb c h ∗ (sideAt B c true h ∗ sideRes c true h hh) ∗ (sideAt B c false h ∗ sideRes c false h hh))
      ⊢ iprop(((ow c (paysFrom c (h + 1)) ∗ accAt B Qb c (h + 1) ∗ sideAt B c true (h + 1) ∗ sideAt B c false (h + 1)) -∗ wpc c (k ⟨⟩) Q)
          -∗ wpc c (hopQ c h >>= k) Q) := by
  unfold hopQ hopP
  simp only [bind_assoc]
  iintro ⟨#HI, HO, Hacc, Ht, Hf⟩ Hk
  icases (side_open B c true hh) $$ Ht with ⟨Hrt, Hwt, ⟨Hst, Htt, Hpt, Hvt, Hct⟩, Hxt⟩
  icases (side_open B c false hh) $$ Hf with ⟨Hrf, Hwf, ⟨Hsf, Htf, Hpf, Hvf, Hcf⟩, Hxf⟩
  iapply (wp_rP B nm c hh fun _ => below_paysFrom c (h := h) (by omega)) $$ [HO Hrt Hrf]
  · isplitr; · iexact HI
    isplitl [HO]; · iexact HO
    isplitl [Hrt] <;> iassumption
  iintro ⟨HO, ⟨Hrt, #Hft⟩, ⟨Hrf, #Hff⟩⟩
  imod (take_slot B nm (dst true c) true hh) $$ [Hwt] with Hat
  · isplitr; · iexact HI
    isplitr; · iexact Hft
    iexact Hwt
  imod (take_slot B nm (dst false c) false hh) $$ [Hwf] with Haf
  · isplitr; · iexact HI
    isplitr; · iexact Hff
    iexact Hwf
  rw [paysFrom_hop c hh]
  have hB : Below (10 * h + 2) (gPays c h ++ paysFrom c (h + 1)) := (below_gPays c (by omega)).append (below_paysFrom c (by omega))
  iapply (wp_sendsP B nm c hh (l := gPays c h ++ paysFrom c (h + 1))
    (fun _ => .cons (below_vPay c true (i := 10 * (h - 1) + 4) hh (by omega)) (.cons (below_vPay c false (i := 10 * (h - 1) + 4) hh (by omega)) (hB.mono (by omega)))))
    $$ [HO Hst Htt Hpt Hvt Hct Hat Hsf Htf Hpf Hvf Hcf Haf]
  · isplitr; · iexact HI
    isplitl [HO]; · iexact HO
    unfold sIn
    isplitl [Hst Htt Hpt Hvt Hct Hat]
    · isplitl [Hst]; · iexact Hst
      isplitl [Hat]; · iexact Hat
      isplitr; · iexact Hft
      isplitl [Htt]; · iexact Htt
      isplitl [Hpt]; · iexact Hpt
      isplitl [Hvt] <;> iassumption
    · isplitl [Hsf]; · iexact Hsf
      isplitl [Haf]; · iexact Haf
      isplitr; · iexact Hff
      isplitl [Htf]; · iexact Htf
      isplitl [Hpf]; · iexact Hpf
      isplitl [Hvf] <;> iassumption
  iintro ⟨HO, ⟨Hk1, Hv1, Hr1⟩, ⟨Hk2, Hv2, Hr2⟩⟩
  iapply (wp_hopLoop B Qb c h) $$ [Hacc Hk1 Hv1 Hk2 Hv2]
  · isplitl [Hacc]; · iexact Hacc
    isplitl [Hk1 Hv1]; · isplitl [Hk1] <;> iassumption
    isplitl [Hk2] <;> iassumption
  iintro ⟨Hacc, ⟨Hk1, Hv1⟩, ⟨Hk2, Hv2⟩⟩
  unfold rest
  icases Hxt with ⟨Hpst, ⟨Hprt, Hkt⟩, Hkpt, Hfrt⟩
  icases Hxf with ⟨Hpsf, ⟨Hprf, Hkf⟩, Hkpf, Hfrf⟩
  iapply (wp_settleP B nm c hh hB) $$ [HO Hk1 Hv1 Hkt Hk2 Hv2 Hkf]
  · isplitr; · iexact HI
    isplitl [HO]; · iexact HO
    isplitl [Hk1 Hv1 Hkt]
    · isplitl [Hk1]; · iexact Hk1
      isplitl [Hv1] <;> iassumption
    · isplitl [Hk2]; · iexact Hk2
      isplitl [Hv2] <;> iassumption
  iintro ⟨HO, Ht, Hf⟩
  unfold settled
  icases Ht with ⟨Hst, Hat, Hkt, Hnt⟩
  icases Hf with ⟨Hsf, Haf, Hkf, Hnf⟩
  icases Hprt with ⟨Ha1, Ha2⟩
  icases Hprf with ⟨Hb1, Hb2⟩
  unfold pos3R
  icases Hr1 with ⟨Hr10, Hr11, Hr12⟩
  icases Hr2 with ⟨Hr20, Hr21, Hr22⟩
  ihave #Ea := (posR_reached c true false (h + 2)) $$ Ha2
  ihave #Eb := (posR_reached c false false (h + 2)) $$ Hb2
  ihave #Ec := (posR_reached c true true (h + 2)) $$ Hr12
  ihave #Ed := (posR_reached c false true (h + 2)) $$ Hr22
  iapply (wp_fP B nm c hh) $$ [HO Hkpt Hfrt Hat Hkpf Hfrf Haf]
  · isplitr; · iexact HI
    isplitl [HO]; · iexact HO
    unfold fIn
    isplitl [Hkpt Hfrt Hat]
    · isplitl [Hkpt]; · iexact Hkpt
      isplitl [Hfrt]; · iexact Hfrt
      isplitl [Hat]; · iexact Hat
      isplitr; · iexact Ea
      iexact Ec
    · isplitl [Hkpf]; · iexact Hkpf
      isplitl [Hfrf]; · iexact Hfrf
      isplitl [Haf]; · iexact Haf
      isplitr; · iexact Eb
      iexact Ed
  iintro ⟨HO, Hkpt, Hkpf⟩
  iapply Hk
  isplitl [HO]; · iexact HO
  isplitl [Hacc]; · iexact Hacc
  isplitl [Hpst Ha1 Ha2 Hst Hkt Hnt Hr10 Hr11 Hr12 Hrt Hkpt]
  · iapply (side_close B c true h)
    unfold pos3R
    isplitl [Hpst]; · iexact Hpst
    isplitl [Ha1 Ha2]; · isplitl [Ha1] <;> iassumption
    isplitl [Hst]; · iexact Hst
    isplitl [Hkt]; · iexact Hkt
    isplitl [Hnt]; · iexact Hnt
    isplitl [Hr10 Hr11 Hr12]
    · isplitl [Hr10]; · iexact Hr10
      isplitl [Hr11] <;> iassumption
    isplitl [Hrt] <;> iassumption
  · iapply (side_close B c false h)
    unfold pos3R
    isplitl [Hpsf]; · iexact Hpsf
    isplitl [Hb1 Hb2]; · isplitl [Hb1] <;> iassumption
    isplitl [Hsf]; · iexact Hsf
    isplitl [Hkf]; · iexact Hkf
    isplitl [Hnf]; · iexact Hnf
    isplitl [Hr20 Hr21 Hr22]
    · isplitl [Hr20]; · iexact Hr20
      isplitl [Hr21] <;> iassumption
    isplitl [Hrf] <;> iassumption

/-- What a hop uses up of both sides. -/
def hopRes (c : Dev nD) (h : ℕ) : sProp 𝕄 :=
  if hh : h < 7 then iprop(sideRes (F := F) c true h hh ∗ sideRes c false h hh) else iprop(emp)

/-- The hops in a row. -/
theorem wp_hopsQ (c : Dev nD) {α : Type} {Q : α → sProp 𝕄} {k : PUnit → P F α} (n : ℕ) : n ≤ 7 →
    iprop(recs B nm ∗ ow c (paysFrom c (7 - n)) ∗ accAt B Qb c (7 - n) ∗ sideAt B c true (7 - n) ∗ sideAt B c false (7 - n)
        ∗ bigSep (Finset.Ico (7 - n) 7) (hopRes (F := F) c))
      ⊢ iprop(((ow c [] ∗ accAt B Qb c 7 ∗ sideAt B c true 7 ∗ sideAt B c false 7) -∗ wpc c (k ⟨⟩) Q)
          -∗ wpc c (hopsQ c n >>= k) Q) := by
  induction n with
  | zero =>
    intro _
    rw [paysFrom_end c (h := 7 - 0) (by omega)]
    show _ ⊢ iprop(_ -∗ wpc c (pure ⟨⟩ >>= k) Q)
    rw [pure_bind]
    iintro ⟨-, HO, Ha, Ht, Hf, -⟩ Hk
    iapply Hk
    isplitl [HO]; · iexact HO
    isplitl [Ha]; · iexact Ha
    isplitl [Ht] <;> iassumption
  | succ n ih =>
    intro hn
    have hh : 7 - (n + 1) < 7 := by omega
    have e : 7 - n = 7 - (n + 1) + 1 := by omega
    have ih := ih (by omega)
    rw [e] at ih
    rw [show (bigSep (Finset.Ico (7 - (n + 1)) 7) (hopRes (F := F) c))
        = iprop((sideRes (F := F) c true (7 - (n + 1)) hh ∗ sideRes c false (7 - (n + 1)) hh) ∗ bigSep (Finset.Ico (7 - (n + 1) + 1) 7) (hopRes (F := F) c)) by
      rw [show Finset.Ico (7 - (n + 1)) 7 = insert (7 - (n + 1)) (Finset.Ico (7 - (n + 1) + 1) 7) from
        (Finset.insert_Ico_add_one_left_eq_Ico hh).symm, bigSep_insert (by simp), hopRes, dif_pos hh]; rfl]
    rw [hopsQ, show 6 - n = 7 - (n + 1) by omega]
    simp only [bind_assoc]
    iintro ⟨#HI, HO, Ha, Ht, Hf, ⟨Hrt, Hrf⟩, Hrest⟩ Hk
    iapply (wp_hopQ B nm Qb c hh) $$ [HO Ha Ht Hf Hrt Hrf]
    · isplitr; · iexact HI
      isplitl [HO]; · iexact HO
      isplitl [Ha]; · iexact Ha
      isplitl [Ht Hrt]; · isplitl [Ht] <;> iassumption
      isplitl [Hf] <;> iassumption
    iintro ⟨HO, Ha, Ht, Hf⟩
    iapply ih $$ [HO Ha Ht Hf Hrest]
    · isplitr; · iexact HI
      isplitl [HO]; · iexact HO
      isplitl [Ha]; · iexact Ha
      isplitl [Ht]; · iexact Ht
      isplitl [Hf] <;> iassumption
    iexact Hk

end Cert.Proof

end
-- ==== Proof.Body.lean ====
/-
  The whole body on one device, from the resources dealt to it to those it gives back.
-/
module

public import proofs.«01_k».proof.Proof.Hop

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

variable (B : Bool → Bool → Dev nD → Vec F S2048x256 .bf16) (nm : Names)

/-! ### The neighbours, as the text computes them -/

theorem right_val (c : Dev nD) : (if c.val = 7 then 6 else (if c.val = 6 then 5 else (if c.val = 5 then 4 else (if c.val = 4 then 0 else (if c.val = 3 then 7 else (if c.val = 2 then 3 else (if c.val = 1 then 2 else (if c.val = 0 then 1 else 0))))))))
    = (dst true c).val := by revert c; decide
theorem left_val (c : Dev nD) : (if c.val = 7 then 3 else (if c.val = 6 then 7 else (if c.val = 5 then 6 else (if c.val = 4 then 5 else (if c.val = 3 then 2 else (if c.val = 2 then 1 else (if c.val = 1 then 0 else (if c.val = 0 then 4 else 0))))))))
    = (dst false c).val := by revert c; decide

theorem dev1_eq (c : Dev nD) : (⟨k0_dev1 c, k0_dev1_lt c⟩ : Dev nD) = src true c := Fin.ext ((k0_dev1_eq c).trans (left_val c))
theorem dev2_eq (c : Dev nD) : (⟨k0_dev2 c, k0_dev2_lt c⟩ : Dev nD) = src false c := Fin.ext ((k0_dev2_eq c).trans (right_val c))

/-- The hops as a row of numbered ones, and the closing hop. -/
theorem hopsP_eq (c : Dev nD) : hopsP (F := F) c = (do hopsQ c 7; wP 7; loopP (sl 7); normP; pure ⟨⟩) := by
  rw [show (do hopsQ c 7; wP 7; loopP (sl 7); normP; pure ⟨⟩ : P F PUnit)
    = (do (do hopQ c 0; (do hopQ c 1; (do hopQ c 2; (do hopQ c 3; (do hopQ c 4; (do hopQ c 5; (do hopQ c 6; pure ⟨⟩)))))));
          recvVP (sl 7); loopP (sl 7); normP; pure ⟨⟩) from rfl]
  unfold hopsP
  simp only [bind_assoc, pure_bind, Fin.eta, right_val, left_val, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq]
  rfl

/-! ### What a device is dealt, and what it gives back -/

/-- The contents of the staged blocks and of the two local buffers. -/
def stagedIn (c : Dev nD) (Qv : qM.view.ty.Contents (Elt F)) (Kv : kM.view.ty.Contents (Elt F)) (Vv : vM.view.ty.Contents (Elt F)) : sProp 𝕄 :=
  iprop((qM.view.loc (c : Thread nD τ) ↦{fullShare} Qv) ∗ (kM.view.loc (c : Thread nD τ) ↦{fullShare} Kv) ∗ (vM.view.loc (c : Thread nD τ) ↦{fullShare} Vv))
def localAny (c : Dev nD) : sProp 𝕄 :=
  iprop((∃ f : Buf (Elt F) (qbM.view.loc (c : Thread nD τ)), qbM.view.loc (c : Thread nD τ) ↦{fullShare} f)
    ∗ (∃ f : Buf (Elt F) (oM.view.loc (c : Thread nD τ)), oM.view.loc (c : Thread nD τ) ↦{fullShare} f)
    ∗ (∃ f : Buf (Elt F) (lM.view.loc (c : Thread nD τ)), lM.view.loc (c : Thread nD τ) ↦{fullShare} f))

/-- A side's positions at the start. -/
def sidePos (c : Dev nD) (σ : Bool) : sProp 𝕄 :=
  iprop(pos3S (F := F) c σ false 0 ∗ pos3S c σ true 0 ∗ pos3R c σ false 0 ∗ pos3R c σ true 0 ∗ atPos (ER (F := F)) (rdyCell c σ) 0 ∅ 0)
/-- The reader's tokens of the two slots free from the start. -/
def sideFree (c : Dev nD) (σ : Bool) : sProp 𝕄 :=
  iprop(Release.readerAt (EL (F := F)) (c, σ, (0 : Fin 7)) 0 ∗ Release.readerAt (EL (F := F)) (c, σ, (1 : Fin 7)) 0)
/-- A side's three slots. -/
def sideSlots (c : Dev nD) (σ : Bool) : sProp 𝕄 :=
  iprop(anyPair (F := F) c σ 0 ∗ anyPair c σ 1 ∗ anyPair c σ 2)
/-- A side's positions at the end. -/
def sidePosEnd (c : Dev nD) (σ : Bool) : sProp 𝕄 :=
  iprop(pos3S (F := F) c σ false 7 ∗ pos3S c σ true 7 ∗ pos3R c σ false 7 ∗ pos3R c σ true 7 ∗ atPos (ER (F := F)) (rdyCell c σ) 1 ∅ 0)

/-- The barrier's part. -/
def barRes (c : Dev nD) : sProp 𝕄 :=
  iprop(cred (tallyAt (barCell c) 1 2)
    ∗ (dutyTok (ER (F := F)) (barCell (src true c)) 0 0 ∗ reached (ER (F := F)) (barCell (src true c)) 0)
    ∗ (dutyTok (ER (F := F)) (barCell (src false c)) 0 1 ∗ reached (ER (F := F)) (barCell (src false c)) 0)
    ∗ atPos (ER (F := F)) (barCell c) 0 ∅ 0)

/-- All that a device owes. -/
def duesOf (c : Dev nD) : List Due := bPay c true :: bPay c false :: paysFrom c 0

/-- Two slots are let go before the barrier. -/
theorem free_two (c : Dev nD) (σ : Bool) :
    iprop(recs B nm ∗ sideFree c σ ∗ (anyPair (F := F) c σ 1 ∗ anyPair c σ 2) ∗ pos3R c σ false 0 ∗ pos3R c σ true 0)
      ⊢ (|={Set.univ}=> iprop(facts (F := F) c σ 2 ∗ pos3R c σ false 0 ∗ pos3R c σ true 0) : sProp 𝕄) := by
  unfold sideFree pos3R
  iintro ⟨#HI, ⟨Hr0, Hr1⟩, ⟨Hp1, Hp2⟩, ⟨H0, H1, H2⟩, ⟨H3, H4, H5⟩⟩
  ihave #E0 := (posR_reached c σ false 0) $$ H0
  ihave #E1 := (posR_reached c σ false (0 + 1)) $$ H1
  ihave #E2 := (posR_reached c σ true 0) $$ H3
  ihave #E3 := (posR_reached c σ true (0 + 1)) $$ H4
  imod (release_fact B nm c σ (h := 0) (by omega)) $$ [Hr0 Hp1] with #Hf0
  · isplitr; · iexact HI
    isplitl [Hr0]; · iexact Hr0
    isplitl [Hp1]; · iexact Hp1
    isplitr; · iexact E0
    iexact E2
  imod (release_fact B nm c σ (h := 1) (by omega)) $$ [Hr1 Hp2] with #Hf1
  · isplitr; · iexact HI
    isplitl [Hr1]; · iexact Hr1
    isplitl [Hp2]; · iexact Hp2
    isplitr; · iexact E1
    iexact E3
  imodintro
  isplitr
  · iapply (facts_snoc c σ 1)
    isplitr
    · iapply (facts_snoc c σ 0)
      isplitr
      · iapply (show (BI.emp : sProp 𝕄) ⊢ facts (F := F) c σ 0 by unfold facts; rw [Finset.range_zero, bigSep_empty])
        iempintro
      iexact Hf0
    iexact Hf1
  isplitl [H0 H1 H2]
  · isplitl [H0]; · iexact H0
    isplitl [H1] <;> iassumption
  · isplitl [H3]; · iexact H3
    isplitl [H4] <;> iassumption

/-- A side ready for hop 0. -/
theorem side_start (c : Dev nD) (σ : Bool) :
    iprop(pos3S (F := F) c σ false 0 ∗ pos3S c σ true 0 ∗ pos3R c σ false 0 ∗ pos3R c σ true 0 ∗ atPos (ER (F := F)) (rdyCell c σ) 0 ∅ 0
        ∗ facts (F := F) c σ 2 ∗ facts (F := F) (dst σ c) σ 2 ∗ full B c σ false 0 ∗ full B c σ true 0)
      ⊢ sideAt B c σ 0 := by
  unfold sideAt rdAt kept rdySt
  rw [if_pos (by omega), if_pos (by omega), show vAt B c σ 0 = iprop(pos3R c σ true 0 ∗ full B c σ true 0) from rfl, Finset.Ico_eq_empty (by omega), bigSep_empty]
  iintro ⟨H1, H2, H3, H4, H5, H6, H7, H8, H9⟩
  isplitl [H1]; · iexact H1
  isplitl [H2]; · iexact H2
  isplitl [H3]; · iexact H3
  isplitl [H4 H9]; · isplitl [H4] <;> iassumption
  isplitl [H8]; · iexact H8
  isplitl [H5 H7]
  · isplitl [H7]; · iexact H7
    iexists (∅ : Finset ℕ)
    isplitr; · ipureintro; exact Nat.zero_le _
    isplitl [H5]; · iexact H5
    rw [bigSep_empty]; iempintro
  isplitl [H6]; · iexact H6
  iempintro

theorem full_any (c : Dev nD) (σ kv : Bool) (h : ℕ) : full B c σ kv h ⊢ anySlot (F := F) c σ kv (sl h) :=
  ownsSat_intro (c : Thread nD τ) (slot σ kv (sl h)) fullShare trivial

/-- A side after the closing hop. -/
theorem side_end (c : Dev nD) (σ : Bool) :
    iprop((pos3S (F := F) c σ false 7 ∗ pos3S c σ true 7 ∗ pos3R c σ false 7 ∗ rdAt c σ 7 ∗ kept c σ 7) ∗ pos3R c σ true 7 ∗ full B c σ false 7 ∗ full B c σ true 7)
      ⊢ iprop(sidePosEnd c σ ∗ sideSlots (F := F) c σ) := by
  unfold sidePosEnd sideSlots rdAt kept rdySt
  rw [if_neg (by omega), show (bigSep (Finset.Ico 5 7) fun j => anyPair (F := F) c σ (sl j)) = iprop(anyPair (F := F) c σ (sl 5) ∗ anyPair (F := F) c σ (sl 6)) by
    rw [show Finset.Ico 5 7 = insert 5 {6} from by decide, bigSep_insert (by decide), bigSep_singleton]; rfl]
  iintro ⟨⟨H1, H2, H3, ⟨-, H4⟩, ⟨-, Ha, Hb⟩⟩, H5, Hk, Hv⟩
  isplitl [H1 H2 H3 H4 H5]
  · isplitl [H1]; · iexact H1
    isplitl [H2]; · iexact H2
    isplitl [H3]; · iexact H3
    isplitl [H5] <;> iassumption
  isplitl [Hb]; · iexact Hb
  isplitl [Hk Hv]
  · iapply (show iprop(anySlot (F := F) c σ false (sl 7) ∗ anySlot (F := F) c σ true (sl 7)) ⊢ anyPair (F := F) c σ 1 from .rfl)
    isplitl [Hk]
    · iapply (full_any B c σ false 7) $$ Hk
    · iapply (full_any B c σ true 7) $$ Hv
  iexact Ha

/-- The result of a device: its weighted sums divided by its denominators. -/
def outAt (Qb : qbM.view.ty.Contents (Elt F)) (c : Dev nD) : oM.view.ty.Contents (Elt F) :=
  steps (nStep (lAt B Qb c 8)) k0_t9_loop.trips (oAt B Qb c 8)

/-- What the sides' buffers are filled with: a device's half blocks of `K` and `V`. -/
def blk (Ks : Dev nD → kM.view.ty.Contents (Elt F)) (Vs : Dev nD → vM.view.ty.Contents (Elt F)) (σ kv : Bool) (c : Dev nD) : Vec F S2048x256 .bf16 :=
  match kv with
  | false => half kM (hoff σ) (hoff_inb σ) (Ks c)
  | true => half vM (hoff σ) (hoff_inb σ) (Vs c)

theorem sideSlots_open (c : Dev nD) (σ : Bool) : sideSlots (F := F) c σ ⊢ iprop(anyPair (F := F) c σ 0 ∗ anyPair c σ 1 ∗ anyPair c σ 2) := .rfl

/-- A loop on slots wholly held. -/
theorem wp_endLoop (Qb : qbM.view.ty.Contents (Elt F)) (c : Dev nD) (h : ℕ) {α : Type} {Q : α → sProp 𝕄} {k : PUnit → P F α} :
    iprop(accAt B Qb c h ∗ (full B c true false h ∗ full B c true true h) ∗ (full B c false false h ∗ full B c false true h))
      ⊢ iprop(((accAt B Qb c (h + 1) ∗ (full B c true false h ∗ full B c true true h) ∗ (full B c false false h ∗ full B c false true h)) -∗ wpc c (k ⟨⟩) Q)
          -∗ wpc c (loopP (sl h) >>= k) Q) := by
  unfold accAt
  iintro ⟨⟨Hq, Ho, Hl⟩, ⟨Hs1, Hs2⟩, ⟨Hs3, Hs4⟩⟩ Hk
  have hl := wp_loopP Qb (fun σ kv => held B c σ kv h) c (sl h) fullShare (oAt B Qb c h) (lAt B Qb c h) (Q := Q) (k := k)
  unfold loopRes at hl
  beta_reduce at hl
  iapply hl $$ [Hq Ho Hl Hs1 Hs2 Hs3 Hs4]
  · isplitl [Hq]; · iexact Hq
    isplitl [Ho]; · iexact Ho
    isplitl [Hl]; · iexact Hl
    isplitl [Hs1 Hs2]; · isplitl [Hs1] <;> iassumption
    isplitl [Hs3] <;> iassumption
  iintro ⟨Hq, Ho, Hl, ⟨Hs1, Hs2⟩, ⟨Hs3, Hs4⟩⟩
  iapply Hk
  isplitl [Hq Ho Hl]
  · isplitl [Hq]; · iexact Hq
    isplitl [Ho]; · iexact Ho
    iexact Hl
  isplitl [Hs1 Hs2]; · isplitl [Hs1] <;> iassumption
  isplitl [Hs3] <;> iassumption

theorem wpc_pure (c : Dev nD) {α : Type} {Q : α → sProp 𝕄} (a : α) : wpc c (pure a : P F α) Q = iprop(|={Set.univ}=> Q a) := by
  show wp _ _ _ (.ret a) Q = _
  rw [wp_ret]

theorem wpc_deviceId (c : Dev nD) {α : Type} {Q : α → sProp 𝕄} {k : Dev nD → P F α} : wpc c (.op .deviceId k) Q = wpc c (k c) Q :=
  wp_deviceId 𝒱₀ (c : Thread nD τ) none Set.univ

set_option maxHeartbeats 3200000 in
/-- The body of one device. -/
theorem wp_bodyP (c : Dev nD) (Qv : qM.view.ty.Contents (Elt F)) (Ks : Dev nD → kM.view.ty.Contents (Elt F)) (Vs : Dev nD → vM.view.ty.Contents (Elt F)) :
    iprop(recs (blk Ks Vs) nm ∗ ow c (duesOf c) ∗ barRes c ∗ bigSep (Finset.Ico 0 7) (hopRes (F := F) c)
        ∗ ((sidePos c true ∗ sideFree c true ∗ sideSlots c true ∗ vCred c true 7) ∗ (sidePos c false ∗ sideFree c false ∗ sideSlots c false ∗ vCred c false 7))
        ∗ stagedIn c Qv (Ks c) (Vs c) ∗ localAny c)
      ⊢ wpc c (bodyP (F := F)) (fun _ => iprop(ow c [] ∗ atPos (ER (F := F)) (barCell c) 1 ∅ 0
        ∗ ((sidePosEnd c true ∗ sideSlots c true) ∗ (sidePosEnd c false ∗ sideSlots c false))
        ∗ stagedIn c Qv (Ks c) (Vs c)
        ∗ (∃ f : Buf (Elt F) (qbM.view.loc (c : Thread nD τ)), qbM.view.loc (c : Thread nD τ) ↦{fullShare} f)
        ∗ (oM.view.loc (c : Thread nD τ) ↦{fullShare} outAt (blk Ks Vs) (qb Qv) c)
        ∗ (∃ f : Buf (Elt F) (lM.view.loc (c : Thread nD τ)), lM.view.loc (c : Thread nD τ) ↦{fullShare} f))) := by
  unfold bodyP stagedIn localAny barRes
  simp only [Prog.lift, Prog.bind_op, Prog.bind_ret]
  rw [wpc_deviceId]
  rw [dev1_eq, dev2_eq]
  iintro ⟨#HI, HO, ⟨Hcb, ⟨Hb1, #Eb1⟩, ⟨Hb2, #Eb2⟩, Hab⟩, Hres, ⟨Ht, Hf⟩, ⟨Hq, Hkk, Hv⟩, ⟨Hqb, Ho, Hl⟩⟩
  unfold sidePos
  icases Ht with ⟨⟨Ht1, Ht2, Ht3, Ht4, Ht5⟩, Htf, Hts, Htc⟩
  icases Hf with ⟨⟨Hf1, Hf2, Hf3, Hf4, Hf5⟩, Hff, Hfs, Hfc⟩
  icases (sideSlots_open c true) $$ Hts with ⟨Hts0, Hts1, Hts2⟩
  icases (sideSlots_open c false) $$ Hfs with ⟨Hfs0, Hfs1, Hfs2⟩
  imod (free_two (blk Ks Vs) nm c true) $$ [Htf Hts1 Hts2 Ht3 Ht4] with ⟨#Hft, Ht3, Ht4⟩
  · isplitr; · iexact HI
    isplitl [Htf]; · iexact Htf
    isplitl [Hts1 Hts2]; · isplitl [Hts1] <;> iassumption
    isplitl [Ht3] <;> iassumption
  imod (free_two (blk Ks Vs) nm c false) $$ [Hff Hfs1 Hfs2 Hf3 Hf4] with ⟨#Hfx, Hf3, Hf4⟩
  · isplitr; · iexact HI
    isplitl [Hff]; · iexact Hff
    isplitl [Hfs1 Hfs2]; · isplitl [Hfs1] <;> iassumption
    isplitl [Hf3] <;> iassumption
  unfold duesOf
  iapply (wp_barrierP (blk Ks Vs) nm c rfl rfl (below_paysFrom c (h := 0) (by omega))) $$ [Hcb HO Hb1 Hb2 Hab]
  · isplitr; · iexact HI
    isplitl [Hcb]; · iexact Hcb
    isplitl [HO]; · iexact HO
    isplitl [Hb1]; · iexact Hb1
    isplitr; · iexact Eb1
    isplitl [Hb2]; · iexact Hb2
    isplitr; · iexact Eb2
    isplitr; · iexact Hft
    isplitr; · iexact Hfx
    iexact Hab
  iintro ⟨HO, Hab, #Hnt, #Hnf⟩
  iapply (wp_setupP c Qv (Ks c) (Vs c)) $$ [Hq Hkk Hv Hqb Ho Hl Hts0 Hfs0]
  · isplitl [Hq]; · iexact Hq
    isplitl [Hkk]; · iexact Hkk
    isplitl [Hv]; · iexact Hv
    isplitl [Hqb]; · iexact Hqb
    isplitl [Ho]; · iexact Ho
    isplitl [Hl]; · iexact Hl
    isplitl [Hts0] <;> iassumption
  iintro ⟨Hq, Hkk, Hv, Hqb, Ho, Hl, ⟨Hs1, Hs2⟩, ⟨Hs3, Hs4⟩⟩
  rw [hopsP_eq]
  iapply (wp_hopsQ (blk Ks Vs) nm (qb Qv) c 7 (Nat.le_refl 7)) $$ [HO Hres Hqb Ho Hl Hs1 Hs2 Hs3 Hs4 Ht1 Ht2 Ht3 Ht4 Ht5 Hf1 Hf2 Hf3 Hf4 Hf5]
  · isplitr; · iexact HI
    isplitl [HO]; · iexact HO
    isplitl [Hqb Ho Hl]
    · unfold accAt
      isplitl [Hqb]; · iexact Hqb
      isplitl [Ho]; · iexact Ho
      iexact Hl
    isplitl [Ht1 Ht2 Ht3 Ht4 Ht5 Hs1 Hs2]
    · iapply (side_start (blk Ks Vs) c true)
      isplitl [Ht1]; · iexact Ht1
      isplitl [Ht2]; · iexact Ht2
      isplitl [Ht3]; · iexact Ht3
      isplitl [Ht4]; · iexact Ht4
      isplitl [Ht5]; · iexact Ht5
      isplitr; · iexact Hft
      isplitr; · iexact Hnt
      isplitl [Hs1]; · iexact Hs1
      iexact Hs2
    isplitl [Hf1 Hf2 Hf3 Hf4 Hf5 Hs3 Hs4]
    · iapply (side_start (blk Ks Vs) c false)
      isplitl [Hf1]; · iexact Hf1
      isplitl [Hf2]; · iexact Hf2
      isplitl [Hf3]; · iexact Hf3
      isplitl [Hf4]; · iexact Hf4
      isplitl [Hf5]; · iexact Hf5
      isplitr; · iexact Hfx
      isplitr; · iexact Hnf
      isplitl [Hs3]; · iexact Hs3
      iexact Hs4
    iexact Hres
  iintro ⟨HO, Hacc, Ht, Hf⟩
  unfold sideAt accAt
  icases Ht with ⟨Ht1, Ht2, Ht3, Ht4, Ht5, Ht6, Ht7⟩
  icases Hf with ⟨Hf1, Hf2, Hf3, Hf4, Hf5, Hf6, Hf7⟩
  icases Hacc with ⟨Hqb, Ho, Hl⟩
  iapply (wp_wP (blk Ks Vs) nm c (h := 7) (Nat.le_refl 7) (fun _ => Below.nil _)) $$ [HO Ht4 Htc Hf4 Hfc]
  · isplitr; · iexact HI
    isplitl [HO]; · iexact HO
    isplitl [Ht4 Htc]; · isplitl [Ht4] <;> iassumption
    isplitl [Hf4] <;> iassumption
  iintro ⟨HO, ⟨Ht4, Htv⟩, ⟨Hf4, Hfv⟩⟩
  iapply (wp_endLoop (blk Ks Vs) (qb Qv) c 7) $$ [Hqb Ho Hl Ht5 Htv Hf5 Hfv]
  · unfold accAt
    isplitl [Hqb Ho Hl]
    · isplitl [Hqb]; · iexact Hqb
      isplitl [Ho]; · iexact Ho
      iexact Hl
    isplitl [Ht5 Htv]; · isplitl [Ht5] <;> iassumption
    isplitl [Hf5] <;> iassumption
  unfold accAt
  iintro ⟨⟨Hqb, Ho, Hl⟩, ⟨Ht5, Htv⟩, ⟨Hf5, Hfv⟩⟩
  iapply (wp_normP c (oAt (blk Ks Vs) (qb Qv) c 8) (lAt (blk Ks Vs) (qb Qv) c 8) (k := fun _ => pure ⟨⟩)) $$ [Ho Hl]
  · isplitl [Ho]; · iexact Ho
    iexact Hl
  iintro ⟨Ho, Hl⟩
  rw [wpc_pure]
  imodintro
  isplitl [HO]; · iexact HO
  isplitl [Hab]; · iexact Hab
  isplitl [Ht1 Ht2 Ht3 Ht4 Ht5 Ht6 Ht7 Htv Hf1 Hf2 Hf3 Hf4 Hf5 Hf6 Hf7 Hfv]
  · isplitl [Ht1 Ht2 Ht3 Ht4 Ht5 Ht6 Ht7 Htv]
    · iapply (side_end (blk Ks Vs) c true)
      isplitl [Ht1 Ht2 Ht3 Ht6 Ht7]
      · isplitl [Ht1]; · iexact Ht1
        isplitl [Ht2]; · iexact Ht2
        isplitl [Ht3]; · iexact Ht3
        isplitl [Ht6] <;> iassumption
      isplitl [Ht4]; · iexact Ht4
      isplitl [Ht5]; · iexact Ht5
      iexact Htv
    · iapply (side_end (blk Ks Vs) c false)
      isplitl [Hf1 Hf2 Hf3 Hf6 Hf7]
      · isplitl [Hf1]; · iexact Hf1
        isplitl [Hf2]; · iexact Hf2
        isplitl [Hf3]; · iexact Hf3
        isplitl [Hf6] <;> iassumption
      isplitl [Hf4]; · iexact Hf4
      isplitl [Hf5]; · iexact Hf5
      iexact Hfv
  isplitl [Hq Hkk Hv]
  · isplitl [Hq]; · iexact Hq
    isplitl [Hkk] <;> iassumption
  isplitl [Hqb]; · iexists (qb Qv); iexact Hqb
  isplitl [Ho]; · iexact Ho
  iexists (lAt (blk Ks Vs) (qb Qv) c 8); iexact Hl

end Cert.Proof

end
-- ==== Proof.Deal.lean ====
/-
  What the launch deals: the cells' rounds, the duties' tokens, the slots' tokens and the credits, by device.
-/
module

public import proofs.«01_k».proof.Proof.Body
public import Idealize.ShloMosaic.Lib.Pipeline.BigSepL

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

/-! ### Conjunctions over the index types -/

section Conj

variable {M : Type} [URA M]

theorem sep_bool (Φ : Bool → sProp M) : bigSep Finset.univ Φ = iprop(Φ true ∗ Φ false) :=
  bigSep_univ_eq_bigSepL [true, false] (by decide) (by decide) Φ

theorem sep_sum {α β : Type} [Fintype α] [Fintype β] [DecidableEq α] [DecidableEq β] (Φ : α ⊕ β → sProp M) :
    bigSep Finset.univ Φ = iprop(bigSep Finset.univ (fun a => Φ (.inl a)) ∗ bigSep Finset.univ fun b => Φ (.inr b)) := by
  rw [show (Finset.univ : Finset (α ⊕ β)) = Finset.univ.map ⟨Sum.inl, Sum.inl_injective⟩ ∪ Finset.univ.map ⟨Sum.inr, Sum.inr_injective⟩ from by
      ext x; cases x <;> simp,
    bigSep_union (by
      rw [Finset.disjoint_left]; intro x h h'
      obtain ⟨a, -, rfl⟩ := Finset.mem_map.mp h
      obtain ⟨b, -, e⟩ := Finset.mem_map.mp h'
      exact Sum.inr_ne_inl e), bigSep_map, bigSep_map]
  rfl

theorem sep_fin (n : ℕ) (f : ℕ → sProp M) : bigSep Finset.univ (fun h : Fin n => f h.val) = bigSep (Finset.range n) f := by
  rw [show Finset.range n = Finset.univ.map Fin.valEmbedding from by
    ext x; simp only [Finset.mem_range, Finset.mem_map, Finset.mem_univ, true_and, Fin.valEmbedding_apply]
    exact ⟨fun h => ⟨⟨x, h⟩, rfl⟩, fun ⟨a, e⟩ => e ▸ a.isLt⟩, bigSep_map]; rfl

theorem sep_front (n : ℕ) (f : ℕ → sProp M) :
    bigSep (Finset.range (n + 1)) f = iprop(f 0 ∗ bigSep (Finset.range n) fun h => f (h + 1)) := by
  rw [Finset.range_add_one', bigSep_insert (by simp), bigSep_map]; rfl

/-- A family whose first entry is nothing, by its later ones. -/
theorem sep_shift (n : ℕ) (f : ℕ → sProp M) (h0 : f 0 = BI.emp) :
    bigSep (Finset.range n) (fun h => f (h + 1)) ⊢ iprop(bigSep (Finset.range n) f ∗ f n) := by
  have h1 := sep_front n f
  rw [h0, show iprop(BI.emp ∗ bigSep (Finset.range n) fun h => f (h + 1)) = bigSep (Finset.range n) (fun h => f (h + 1))
    from equiv_iff.mp emp_sep] at h1
  rw [← h1, bigSep_range_succ]
  iintro ⟨H, H'⟩
  isplitl [H'] <;> iassumption

/-- A family dealt to devices, each entry by its own permutation of them. -/
theorem sep_deal {I : Type} [Fintype I] (e : I → Dev nD ≃ Dev nD) (Φ : Dev nD → I → sProp M) :
    bigSep Finset.univ (fun p : Dev nD × I => Φ p.1 p.2) = bigSep Finset.univ fun c => bigSep Finset.univ fun i => Φ (e i c) i := by
  rw [bigSep_univ_equiv (⟨fun p => (e p.2 p.1, p.2), fun p => ((e p.2).symm p.1, p.2), fun p => by simp, fun p => by simp⟩ : Dev nD × I ≃ Dev nD × I),
    bigSep_univ_prod]
  rfl

theorem sep_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Conj

/-! ### The duties' tokens -/

/-- The duties of a device's cells: its barrier's, its ready cells', its send cells' and its receive cells'. -/
abbrev Tk : Type := (Bool ⊕ Bool × Fin 5) ⊕ ((Bool × Bool × Fin 7) ⊕ (Bool × Bool × Fin 7))

/-- The cell's kind, the round and the number of a duty. -/
def tkOf : Tk → Kind × ℕ × ℕ
  | .inl (.inl σ) => (.bar, 0, sideNo σ)
  | .inl (.inr (σ, j)) => (.rdy σ, 0, j.val)
  | .inr (.inl (σ, kv, h)) => (.snd σ kv (sl h.val), h.val / 3, 0)
  | .inr (.inr (σ, kv, h)) => (.rcv σ kv (sl (h.val + 1)), h.val / 3, 0)

theorem tkOf_injective : Function.Injective tkOf := by decide

/-- The device whose cell it is, of the device that pays it. -/
def tkTo : Tk → Dev nD ≃ Dev nD
  | .inl (.inl σ) => (ring σ).symm
  | .inl (.inr (σ, _)) => (ring σ).symm
  | .inr (.inl _) => Equiv.refl _
  | .inr (.inr (σ, _, _)) => ring σ

theorem cell_injective : Function.Injective fun p : Dev nD × Kind => cell p.1 p.2 := by
  rintro ⟨c, k⟩ ⟨c', k'⟩ h
  have h1 : c = c' := congrArg (fun g : GSem nD τ sig => g.1.1) h
  have h2 : k = k' := semOf_injective (congrArg (fun g : GSem nD τ sig => g.2) h)
  rw [h1, h2]

def tok (p : Dev nD × Tk) : GSem nD τ sig × ℕ × ℕ := (cell p.1 (tkOf p.2).1, (tkOf p.2).2)

theorem tok_injective : Function.Injective tok := by
  rintro ⟨c, t⟩ ⟨c', t'⟩ h
  have h1 : (c, (tkOf t).1) = (c', (tkOf t').1) := cell_injective (congrArg (fun x : GSem nD τ sig × ℕ × ℕ => x.1) h)
  have h2 : (tkOf t).2 = (tkOf t').2 := congrArg (fun x : GSem nD τ sig × ℕ × ℕ => x.2) h
  have h3 : t = t' := tkOf_injective (Prod.ext (congrArg (fun x : Dev nD × Kind => x.2) h1) h2)
  rw [h3, show c = c' from congrArg (fun x : Dev nD × Kind => x.1) h1]

/-- All cells, and all duties' tokens. -/
def allCells : Finset (GSem nD τ sig) := Finset.univ.map ⟨_, cell_injective⟩
def allToks : Finset (GSem nD τ sig × ℕ × ℕ) := Finset.univ.map ⟨tok, tok_injective⟩

/-! ### What a device is dealt -/

variable (B : Bool → Bool → Dev nD → Vec F S2048x256 .bf16)

/-- That every cell stands at its first round. -/
def marks : sProp 𝕄 := bigSep Finset.univ fun p : Dev nD × Kind => reached (ER (F := F)) (cell p.1 p.2) 0

instance marks_persistent : BI.Persistent (marks (F := F)) := by unfold marks; infer_instance

theorem marks_elim (c : Dev nD) (k : Kind) : marks (F := F) ⊢ reached (ER (F := F)) (cell c k) 0 :=
  bigSep_elim (Φ := fun p : Dev nD × Kind => reached (ER (F := F)) (cell p.1 p.2) 0) (Finset.mem_univ (c, k))

/-- The invariants of all slots. -/
def slotsKnown : sProp 𝕄 :=
  iprop(∃ ι : Key → ℕ, bigSep Finset.univ fun k : Key => Release.slotInv (EL (F := F)) (ι k) k (anyPair (F := F) k.1 k.2.1 (sl (k.2.2.val + 1))))

instance slotsKnown_persistent : BI.Persistent (slotsKnown (F := F)) := by unfold slotsKnown; infer_instance

/-- A device's positions, tokens and slot tokens. -/
def dealt (c : Dev nD) : sProp 𝕄 :=
  iprop((bigSep Finset.univ fun k : Kind => atPos (ER (F := F)) (cell c k) 0 ∅ 0)
    ∗ (bigSep Finset.univ fun t : Tk => dutyTok (ER (F := F)) (cell (tkTo t c) (tkOf t).1) (tkOf t).2.1 (tkOf t).2.2)
    ∗ (bigSep Finset.univ fun i : Bool × Fin 7 => Release.writeTok (EL (F := F)) (dst i.1 c, i.1, i.2) 1)
    ∗ (bigSep Finset.univ fun i : Bool × Fin 7 => Release.readerAt (EL (F := F)) (c, i.1, i.2) 0))

/-- A device's share of what the launch starts from. -/
def G (c : Dev nD) : sProp 𝕄 :=
  iprop((bigSep Finset.univ fun k : Kind => roundState (ER (F := F)) (Rd B) (cell c k) 0) ∗ (marks (F := F) ∗ slotsKnown (F := F)) ∗ dealt c)

theorem cells_split (Φ : GSem nD τ sig → sProp 𝕄) :
    bigSep allCells Φ = bigSep Finset.univ fun c : Dev nD => bigSep Finset.univ fun k : Kind => Φ (cell c k) := by
  unfold allCells; rw [bigSep_map, bigSep_univ_prod]; rfl

theorem fund : iprop(BI.own (ER (F := F) (initOf allCells allToks)) ∗ BI.own (EL (F := F) (Release.initSlots Finset.univ 1)))
    ⊢ (|={Set.univ}=> bigSep Finset.univ (G B) : sProp 𝕄) := by
  have hT : bigSep allToks (fun x => (dutyTok (ER (F := F)) x.1 x.2.1 x.2.2 : sProp 𝕄))
      = bigSep Finset.univ fun c : Dev nD => bigSep Finset.univ fun t : Tk => dutyTok (ER (F := F)) (cell (tkTo t c) (tkOf t).1) (tkOf t).2.1 (tkOf t).2.2 := by
    unfold allToks; rw [bigSep_map]
    exact sep_deal tkTo fun c t => (dutyTok (ER (F := F)) (cell c (tkOf t).1) (tkOf t).2.1 (tkOf t).2.2 : sProp 𝕄)
  have hR : bigSep allCells (fun g => (reached (ER (F := F)) g 0 : sProp 𝕄)) = marks (F := F) := by
    unfold allCells marks; rw [bigSep_map]; rfl
  have hW : bigSep ((Finset.univ : Finset Key) ×ˢ Finset.range 1) (fun x => (Release.writeTok (EL (F := F)) x.1 (x.2 + 1) : sProp 𝕄))
      = bigSep Finset.univ fun c : Dev nD => bigSep Finset.univ fun i : Bool × Fin 7 => Release.writeTok (EL (F := F)) (dst i.1 c, i.1, i.2) 1 := by
    rw [show (Finset.univ : Finset Key) ×ˢ Finset.range 1 = Finset.univ.map ⟨fun k => (k, 0), fun _ _ h => congrArg (fun x : Key × ℕ => x.1) h⟩ from by
        ext ⟨k, n⟩; rw [Finset.mem_map]; exact ⟨fun h => ⟨k, Finset.mem_univ _, by
            have e : n = 0 := by have := Finset.mem_range.mp (Finset.mem_product.mp h).2; omega
            subst e; rfl⟩,
          fun ⟨a, _, e⟩ => by rw [← e]; exact Finset.mem_product.mpr ⟨Finset.mem_univ _, Finset.mem_range.mpr Nat.one_pos⟩⟩, bigSep_map]
    exact sep_deal (fun i : Bool × Fin 7 => ring i.1) fun c i => (Release.writeTok (EL (F := F)) (c, i.1, i.2) 1 : sProp 𝕄)
  have hD : bigSep (Finset.univ : Finset Key) (fun k => (Release.readerAt (EL (F := F)) k 0 : sProp 𝕄))
      = bigSep Finset.univ fun c : Dev nD => bigSep Finset.univ fun i : Bool × Fin 7 => Release.readerAt (EL (F := F)) (c, i.1, i.2) 0 :=
    bigSep_univ_prod _
  iintro ⟨HX, HY⟩
  imod (Rounds.fund ER (Rd B) allCells allToks) $$ HX with ⟨Hst, Hr, Hat, Htok⟩
  imod (Release.slots_init EL Finset.univ 1 fun k : Key => anyPair (F := F) k.1 k.2.1 (sl (k.2.2.val + 1))) $$ HY with ⟨%ι, -, #Hinv, Hrd, Hw⟩
  imodintro
  ihave Hst' := (Entails.of_eq (cells_split fun g => roundState ER (Rd B) g 0)) $$ Hst
  ihave Hat' := (Entails.of_eq (cells_split fun g => atPos ER g 0 ∅ 0)) $$ Hat
  ihave #Hr' := (Entails.of_eq hR) $$ Hr
  ihave Htok' := (Entails.of_eq hT) $$ Htok
  ihave Hw' := (Entails.of_eq hW) $$ Hw
  ihave Hrd' := (Entails.of_eq hD) $$ Hrd
  iapply (sep_persistent (R := iprop(marks (F := F) ∗ slotsKnown (F := F)))
    (Φ := fun c => iprop((bigSep Finset.univ fun k : Kind => roundState (ER (F := F)) (Rd B) (cell c k) 0) ∗ dealt c)) fun c _ => by
      unfold G
      iintro ⟨H1, H2, H3⟩
      isplitl [H2]; · iexact H2
      isplitl [H1] <;> iassumption)
  isplitr
  · isplitr; · iexact Hr'
    unfold slotsKnown; iexists ι; iexact Hinv
  unfold dealt
  simp only [bigSep_sep']
  isplitl [Hst']; · iexact Hst'
  isplitl [Hat']; · iexact Hat'
  isplitl [Htok']; · iexact Htok'
  isplitl [Hw'] <;> iassumption

/-! ### The credits -/

/-- What is owed to a cell: by side, the cell's kind and the index. -/
abbrev Tm : Type := Bool × Kind × ℕ

/-- The device it is owed to, of the device that owes it. -/
def tmTo : Tm → Dev nD ≃ Dev nD
  | (σ, .rcv .., _) => ring σ
  | (σ, _, _) => (ring σ).symm

def tmAt (t : Tm) (c : Dev nD) : Due := (cell c t.2.1, t.2.2, units t.2.1)

/-- What a device owes, in its order; and the same sorted. -/
def tmsK (σ : Bool) (h : ℕ) : Tm := (σ, .rcv σ false (sl (h + 1)), 10 * h + 2)
def tmsV (σ : Bool) (h : ℕ) : Tm := (σ, .rcv σ true (sl (h + 1)), 10 * h + 4)
def tmsG (σ : Bool) (h : ℕ) : Tm := (σ, .rdy σ, 10 * h + 8)
def tms : List Tm :=
  (true, .bar, 1) :: (false, .bar, 1) :: (List.range 7).flatMap fun h =>
    tmsK true h :: tmsK false h :: tmsV true h :: tmsV false h :: if h < 5 then [tmsG true h, tmsG false h] else []
def tmsSide (σ : Bool) : List Tm := (List.range 7).map (tmsK σ) ++ ((List.range 7).map (tmsV σ) ++ (List.range 5).map (tmsG σ))
def tms' : List Tm := [(true, .bar, 1), (false, .bar, 1)] ++ (tmsSide true ++ tmsSide false)

theorem tms_perm : tms.Perm tms' := by decide +kernel

theorem duesOf_eq (c : Dev nD) : duesOf c = tms.map fun t => tmAt t (tmTo t c) := rfl

theorem tallyL_perm {l l' : List Due} (h : l.Perm l') : tallyL l = tallyL l' := by
  induction h with
  | nil => rfl
  | cons x _ ih => rw [tallyL, tallyL, ih]
  | swap x y l => rw [tallyL, tallyL, tallyL, tallyL, add_left_comm]
  | trans _ _ ih ih' => exact ih.trans ih'

theorem sum_dues (l : List Tm) : (∑ c : Dev nD, tallyL (l.map fun t => tmAt t (tmTo t c))) = ∑ c : Dev nD, tallyL (l.map fun t => tmAt t c) := by
  induction l with
  | nil => rfl
  | cons t l ih =>
    simp only [List.map_cons, tallyL, Finset.sum_add_distrib, ih]
    rw [Equiv.sum_comp (tmTo t) fun c => (tmAt t c).tally]

theorem launchCred_eq (c : Dev nD) :
    (Pipeline.launchCred (fun d => tallyL (duesOf d)) c : sProp 𝕄) = cred (tallyL (tms'.map fun t => tmAt t c)) :=
  Pipeline.launchCred_of_sum _ (fun d => tallyL (tms'.map fun t => tmAt t d))
    (by
      rw [← sum_dues]
      refine Finset.sum_congr rfl fun d _ => ?_
      rw [duesOf_eq]; exact tallyL_perm (tms_perm.map _))
    (fun d g hg => by
      obtain ⟨i, hi⟩ : ∃ i, tallyL (tms'.map fun t => tmAt t d) g i ≠ 0 := by
        by_contra h; push Not at h; exact hg (Finsupp.ext h)
      obtain ⟨x, hx, rfl, -⟩ := tallyL_pos (Nat.pos_of_ne_zero hi)
      obtain ⟨t, -, rfl⟩ := List.mem_map.mp hx
      rfl) c

/-- A side's credits. -/
def sideCreds (c : Dev nD) (σ : Bool) : sProp 𝕄 :=
  iprop((bigSep (Finset.range 7) fun h => cred (tallyAt (rcvCell c σ false h) (10 * h + 2) N))
    ∗ (bigSep (Finset.range 7) fun h => vCred (F := F) c σ h) ∗ vCred (F := F) c σ 7
    ∗ (bigSep (Finset.range 7) fun h => rdCred (F := F) c σ h))

theorem creds_side (c : Dev nD) (σ : Bool) :
    bigSepL (tmsSide σ) (fun t => (cred (tmAt t c).tally : sProp 𝕄)) ⊢ sideCreds c σ := by
  have hl (n : ℕ) (f : ℕ → sProp 𝕄) : bigSepL (List.range n) f = bigSep (Finset.range n) f :=
    (bigSep_eq_bigSepL_of_eq (List.range n) (List.toFinset_range n).symm List.nodup_range f).symm
  have hv := sep_shift 7 (vCred (F := F) c σ) rfl
  have hr := (sep_shift 5 (fun h => rdCred (F := F) c σ (h + 1)) rfl).trans
    (show _ ⊢ bigSep (Finset.range 6) (fun h => rdCred (F := F) c σ (h + 1)) by
      rw [bigSep_range_succ 5]; iintro ⟨H1, H2⟩; isplitl [H2] <;> iassumption)
  have hr' := (hr.trans (sep_shift 6 (rdCred (F := F) c σ) rfl)).trans
    (show _ ⊢ bigSep (Finset.range 7) (rdCred (F := F) c σ) by
      rw [bigSep_range_succ 6]; iintro ⟨H1, H2⟩; isplitl [H2] <;> iassumption)
  unfold tmsSide sideCreds
  rw [bigSepL_append, bigSepL_append, bigSepL_map, bigSepL_map, bigSepL_map, hl, hl, hl]
  iintro ⟨H1, H2, H3⟩
  ihave H2 := hv $$ [H2]
  · iexact H2
  icases H2 with ⟨H2, H2'⟩
  isplitl [H1]; · iexact H1
  isplitl [H2]; · iexact H2
  isplitl [H2']; · iexact H2'
  iapply hr'; iexact H3

/-- The launch's credits, sorted. -/
theorem creds (c : Dev nD) : (Pipeline.launchCred (fun d => tallyL (duesOf d)) c : sProp 𝕄)
    ⊢ iprop(cred (tallyAt (barCell c) 1 2) ∗ sideCreds c true ∗ sideCreds c false) := by
  rw [launchCred_eq, TalkSites.cred_tallyL, bigSepL_map]
  unfold tms'
  rw [bigSepL_append, bigSepL_append, show bigSepL [((true, .bar, 1) : Tm), (false, .bar, 1)] (fun t => (cred (tmAt t c).tally : sProp 𝕄))
    = iprop(cred (tallyAt (barCell c) 1 1) ∗ cred (tallyAt (barCell c) 1 1)) from rfl]
  iintro ⟨⟨Hb, Hb'⟩, H1, H2⟩
  isplitl [Hb Hb']
  · iapply (show iprop(cred (tallyAt (barCell c) 1 1) ∗ cred (tallyAt (barCell c) 1 1)) ⊢ (cred (tallyAt (barCell c) 1 2) : sProp 𝕄) from by
      rw [show (tallyAt (barCell c) 1 2 : CellTallies nD τ sig ℕ) = tallyAt (barCell c) 1 1 + tallyAt (barCell c) 1 1 from (tallyAt_add (barCell c) 1 1 1).symm]
      exact (cred_add _ _).2)
    isplitl [Hb]; · iexact Hb
    iexact Hb'
  isplitl [H1]
  · iapply (creds_side c true); iexact H1
  · iapply (creds_side c false); iexact H2

/-! ### A device's share, sorted for its body -/

theorem sep_side (n : ℕ) {M : Type} [URA M] (f : Bool → ℕ → sProp M) :
    bigSep Finset.univ (fun i : Bool × Fin n => f i.1 i.2.val) = iprop(bigSep (Finset.range n) (f true) ∗ bigSep (Finset.range n) (f false)) := by
  rw [bigSep_univ_prod, sep_bool, sep_fin n (f true), sep_fin n (f false)]

theorem sep_side2 (n : ℕ) {M : Type} [URA M] (f : Bool → Bool → ℕ → sProp M) :
    bigSep Finset.univ (fun i : Bool × Bool × Fin n => f i.1 i.2.1 i.2.2.val)
      = iprop((bigSep (Finset.range n) (f true true) ∗ bigSep (Finset.range n) (f true false))
          ∗ (bigSep (Finset.range n) (f false true) ∗ bigSep (Finset.range n) (f false false))) := by
  rw [bigSep_univ_prod, sep_bool, sep_side n (f true), sep_side n (f false)]

/-- A side's tokens. -/
def sideToks (c : Dev nD) (σ : Bool) : sProp 𝕄 :=
  iprop(bigSep (Finset.range 7) (toks (F := F) c σ false) ∗ bigSep (Finset.range 7) (toks (F := F) c σ true)
    ∗ bigSep (Finset.range 5) fun j => dutyTok (ER (F := F)) (rdyCell (src σ c) σ) 0 j)

theorem toks_open (c : Dev nD) :
    (bigSep Finset.univ fun t : Tk => (dutyTok (ER (F := F)) (cell (tkTo t c) (tkOf t).1) (tkOf t).2.1 (tkOf t).2.2 : sProp 𝕄))
      ⊢ iprop((dutyTok (ER (F := F)) (barCell (src true c)) 0 0 ∗ dutyTok (ER (F := F)) (barCell (src false c)) 0 1)
          ∗ sideToks c true ∗ sideToks c false) := by
  rw [sep_sum, sep_sum, sep_sum, sep_bool]
  have h1 := sep_side 5 fun σ j => (dutyTok (ER (F := F)) (rdyCell (src σ c) σ) 0 j : sProp 𝕄)
  have h2 := sep_side2 7 fun σ kv h => (dutyTok (ER (F := F)) (sndCell c σ kv h) (h / 3) 0 : sProp 𝕄)
  have h3 := sep_side2 7 fun σ kv h => (dutyTok (ER (F := F)) (rcvCell (dst σ c) σ kv h) (h / 3) 0 : sProp 𝕄)
  have ht (σ kv : Bool) : iprop((bigSep (Finset.range 7) fun h => (dutyTok (ER (F := F)) (sndCell c σ kv h) (h / 3) 0 : sProp 𝕄))
      ∗ bigSep (Finset.range 7) fun h => (dutyTok (ER (F := F)) (rcvCell (dst σ c) σ kv h) (h / 3) 0 : sProp 𝕄)) ⊢ bigSep (Finset.range 7) (toks (F := F) c σ kv) := by
    rw [← bigSep_sep']; exact .rfl
  unfold sideToks
  iintro ⟨⟨⟨Hb, Hb'⟩, Hr⟩, Hs, Hv⟩
  ihave Hr := (Entails.of_eq h1) $$ [Hr]
  · iexact Hr
  ihave Hs := (Entails.of_eq h2) $$ [Hs]
  · iexact Hs
  ihave Hv := (Entails.of_eq h3) $$ [Hv]
  · iexact Hv
  icases Hr with ⟨Hr, Hr'⟩
  icases Hs with ⟨⟨Hs1, Hs2⟩, Hs3, Hs4⟩
  icases Hv with ⟨⟨Hv1, Hv2⟩, Hv3, Hv4⟩
  isplitl [Hb Hb']
  · isplitl [Hb]
    · iexact Hb
    · iexact Hb'
  isplitl [Hr Hs1 Hs2 Hv1 Hv2]
  · isplitl [Hs2 Hv2]
    · iapply (ht true false); isplitl [Hs2] <;> iassumption
    isplitl [Hs1 Hv1]
    · iapply (ht true true); isplitl [Hs1] <;> iassumption
    iexact Hr
  · isplitl [Hs4 Hv4]
    · iapply (ht false false); isplitl [Hs4] <;> iassumption
    isplitl [Hs3 Hv3]
    · iapply (ht false true); isplitl [Hs3] <;> iassumption
    iexact Hr'

/-- A side's slot tokens. -/
def wTok (c : Dev nD) (σ : Bool) (h : ℕ) : sProp 𝕄 :=
  if hh : h < 7 then Release.writeTok (EL (F := F)) (dst σ c, σ, (⟨h, hh⟩ : Fin 7)) 1 else iprop(emp)
def rTok (c : Dev nD) (σ : Bool) (h : ℕ) : sProp 𝕄 :=
  if hh : h < 7 then Release.readerAt (EL (F := F)) (c, σ, (⟨h, hh⟩ : Fin 7)) 0 else iprop(emp)

theorem wTok_open (c : Dev nD) :
    (bigSep Finset.univ fun i : Bool × Fin 7 => (Release.writeTok (EL (F := F)) (dst i.1 c, i.1, i.2) 1 : sProp 𝕄))
      = iprop(bigSep (Finset.range 7) (wTok (F := F) c true) ∗ bigSep (Finset.range 7) (wTok (F := F) c false)) := by
  rw [← sep_side 7 (wTok (F := F) c)]
  exact bigSep_congr fun i _ => by unfold wTok; rw [dif_pos i.2.isLt]
theorem rTok_open (c : Dev nD) :
    (bigSep Finset.univ fun i : Bool × Fin 7 => (Release.readerAt (EL (F := F)) (c, i.1, i.2) 0 : sProp 𝕄))
      = iprop(bigSep (Finset.range 7) (rTok (F := F) c true) ∗ bigSep (Finset.range 7) (rTok (F := F) c false)) := by
  rw [← sep_side 7 (rTok (F := F) c)]
  exact bigSep_congr fun i _ => by unfold rTok; rw [dif_pos i.2.isLt]

def sideResAt (c : Dev nD) (σ : Bool) (h : ℕ) : sProp 𝕄 := if hh : h < 7 then sideRes (F := F) c σ h hh else iprop(emp)

theorem side_deal (c : Dev nD) (σ : Bool) :
    iprop(marks (F := F) ∗ sideToks (F := F) c σ ∗ bigSep (Finset.range 7) (wTok (F := F) c σ) ∗ bigSep (Finset.range 7) (rTok (F := F) c σ) ∗ sideCreds (F := F) c σ)
      ⊢ iprop(bigSep (Finset.range 7) (sideResAt (F := F) c σ) ∗ sideFree (F := F) c σ ∗ vCred (F := F) c σ 7) := by
  have hf : iprop(marks (F := F) ∗ (bigSep (Finset.range 5) fun j => (dutyTok (ER (F := F)) (rdyCell (src σ c) σ) 0 j : sProp 𝕄)) ∗ bigSep (Finset.range 5) fun h => rTok (F := F) c σ (h + 2))
      ⊢ bigSep (Finset.range 7) (freeRes (F := F) c σ) := by
    rw [bigSep_range_succ 6, bigSep_range_succ 5, show freeRes (F := F) c σ 6 = iprop(emp) from dif_neg (by omega),
      show freeRes (F := F) c σ 5 = iprop(emp) from dif_neg (by omega), ← bigSep_sep']
    iintro ⟨#HM, H⟩
    isplitr; · iempintro
    isplitr; · iempintro
    iapply (sep_persistent (R := marks (F := F)) (Φ := fun j => iprop(dutyTok (ER (F := F)) (rdyCell (src σ c) σ) 0 j ∗ rTok (F := F) c σ (j + 2))) fun j hj => by
      have hj := Finset.mem_range.mp hj
      unfold freeRes rTok
      rw [dif_pos hj, dif_pos (show j + 2 < 7 by omega)]
      iintro ⟨#HM, H1, H2⟩
      isplitl [H2]; · iexact H2
      isplitl [H1]; · iexact H1
      iapply (marks_elim (F := F) (src σ c) (.rdy σ)); iexact HM)
    isplitr; · iexact HM
    iexact H
  have hs : iprop(bigSep (Finset.range 7) (fun h => rdCred (F := F) c σ h) ∗ bigSep (Finset.range 7) (wTok (F := F) c σ) ∗ bigSep (Finset.range 7) (toks (F := F) c σ false)
      ∗ bigSep (Finset.range 7) (toks (F := F) c σ true) ∗ (bigSep (Finset.range 7) fun h => (cred (tallyAt (rcvCell c σ false h) (10 * h + 2) N) : sProp 𝕄))
      ∗ bigSep (Finset.range 7) (fun h => vCred (F := F) c σ h) ∗ bigSep (Finset.range 7) (freeRes (F := F) c σ))
      ⊢ bigSep (Finset.range 7) (sideResAt (F := F) c σ) := by
    rw [← bigSep_sep', ← bigSep_sep', ← bigSep_sep', ← bigSep_sep', ← bigSep_sep', ← bigSep_sep']
    exact bigSep_mono fun h hh => by
      have hh := Finset.mem_range.mp hh
      show _ ⊢ sideResAt (F := F) c σ h
      unfold sideResAt sideRes wTok
      rw [dif_pos hh, dif_pos hh]
  unfold sideToks sideCreds sideFree
  rw [sep_front 6 (rTok (F := F) c σ), sep_front 5 fun h => rTok (F := F) c σ (h + 1)]
  iintro ⟨#HM, ⟨H1, H2, H3⟩, H4, ⟨H5, H6, H7⟩, H8, H9, H10, H11⟩
  isplitl [H1 H2 H3 H4 H7 H8 H9 H11]
  · iapply hs
    isplitl [H11]; · iexact H11
    isplitl [H4]; · iexact H4
    isplitl [H1]; · iexact H1
    isplitl [H2]; · iexact H2
    isplitl [H8]; · iexact H8
    isplitl [H9]; · iexact H9
    iapply hf
    isplitr; · iexact HM
    isplitl [H3]; · iexact H3
    iexact H7
  isplitl [H5 H6]
  · isplitl [H5]
    · iapply (show rTok (F := F) c σ 0 ⊢ Release.readerAt (EL (F := F)) (c, σ, (0 : Fin 7)) 0 from Entails.of_eq (dif_pos (by omega))); iexact H5
    · iapply (show rTok (F := F) c σ 1 ⊢ Release.readerAt (EL (F := F)) (c, σ, (1 : Fin 7)) 0 from Entails.of_eq (dif_pos (by omega))); iexact H6
  iexact H10

/-- A side's kinds, the slots in the order of the hops from `h` on; and all kinds. -/
def kindsL (σ : Bool) (h : ℕ) : List Kind :=
  [.snd σ false (sl h), .snd σ false (sl (h + 1)), .snd σ false (sl (h + 2)), .snd σ true (sl h), .snd σ true (sl (h + 1)), .snd σ true (sl (h + 2)),
   .rcv σ false (sl (h + 1)), .rcv σ false (sl (h + 1 + 1)), .rcv σ false (sl (h + 2 + 1)), .rcv σ true (sl (h + 1)), .rcv σ true (sl (h + 1 + 1)), .rcv σ true (sl (h + 2 + 1)),
   .rdy σ]
theorem kinds_split (h : ℕ) (hh : h = 0 ∨ h = 7) {M : Type} [URA M] (Φ : Kind → sProp M) :
    bigSep Finset.univ Φ = iprop(Φ .bar ∗ bigSepL (kindsL true h) Φ ∗ bigSepL (kindsL false h) Φ) := by
  rw [← bigSepL_append]
  show _ = BI.sep (Φ .bar) (bigSepL _ Φ)
  rw [← bigSepL_cons]
  exact bigSep_univ_eq_bigSepL _ (by rcases hh with rfl | rfl <;> decide) (by rcases hh with rfl | rfl <;> decide) Φ

theorem kindsL_open (σ : Bool) (h : ℕ) {M : Type} [URA M] (Φ : Kind → sProp M) :
    bigSepL (kindsL σ h) Φ = iprop(Φ (.snd σ false (sl h)) ∗ Φ (.snd σ false (sl (h + 1))) ∗ Φ (.snd σ false (sl (h + 2))) ∗ Φ (.snd σ true (sl h)) ∗ Φ (.snd σ true (sl (h + 1))) ∗ Φ (.snd σ true (sl (h + 2)))
      ∗ Φ (.rcv σ false (sl (h + 1))) ∗ Φ (.rcv σ false (sl (h + 1 + 1))) ∗ Φ (.rcv σ false (sl (h + 2 + 1))) ∗ Φ (.rcv σ true (sl (h + 1))) ∗ Φ (.rcv σ true (sl (h + 1 + 1))) ∗ Φ (.rcv σ true (sl (h + 2 + 1)))
      ∗ Φ (.rdy σ)) := rfl

theorem side_positions (c : Dev nD) (σ : Bool) :
    iprop(marks (F := F) ∗ bigSepL (kindsL σ 0) fun k => (atPos (ER (F := F)) (cell c k) 0 ∅ 0 : sProp 𝕄)) ⊢ sidePos (F := F) c σ := by
  rw [kindsL_open]
  have hS (kv : Bool) (h : ℕ) (hh : h < 3) : iprop(marks (F := F) ∗ atPos (ER (F := F)) (cell c (.snd σ kv (sl h))) 0 ∅ 0) ⊢ posS (F := F) c σ kv h := by
    unfold posS
    rw [show h / 3 = 0 by omega]
    iintro ⟨#HM, H⟩
    isplitl [H]; · iexact H
    iapply (marks_elim (F := F) c (.snd σ kv (sl h))); iexact HM
  have hR (kv : Bool) (h : ℕ) (hh : h < 3) : iprop(marks (F := F) ∗ atPos (ER (F := F)) (cell c (.rcv σ kv (sl (h + 1)))) 0 ∅ 0) ⊢ posR (F := F) c σ kv h := by
    unfold posR
    rw [show h / 3 = 0 by omega]
    iintro ⟨#HM, H⟩
    isplitl [H]; · iexact H
    iapply (marks_elim (F := F) c (.rcv σ kv (sl (h + 1)))); iexact HM
  unfold sidePos pos3S pos3R
  iintro ⟨#HM, H1, H2, H3, H4, H5, H6, H7, H8, H9, H10, H11, H12, H13⟩
  isplitl [H1 H2 H3]
  · isplitl [H1]; · iapply (hS false 0 (by omega)); isplitr; · iexact HM
                    iexact H1
    isplitl [H2]; · iapply (hS false 1 (by omega)); isplitr; · iexact HM
                    iexact H2
    iapply (hS false 2 (by omega)); isplitr; · iexact HM
    iexact H3
  isplitl [H4 H5 H6]
  · isplitl [H4]; · iapply (hS true 0 (by omega)); isplitr; · iexact HM
                    iexact H4
    isplitl [H5]; · iapply (hS true 1 (by omega)); isplitr; · iexact HM
                    iexact H5
    iapply (hS true 2 (by omega)); isplitr; · iexact HM
    iexact H6
  isplitl [H7 H8 H9]
  · isplitl [H7]; · iapply (hR false 0 (by omega)); isplitr; · iexact HM
                    iexact H7
    isplitl [H8]; · iapply (hR false 1 (by omega)); isplitr; · iexact HM
                    iexact H8
    iapply (hR false 2 (by omega)); isplitr; · iexact HM
    iexact H9
  isplitl [H10 H11 H12]
  · isplitl [H10]; · iapply (hR true 0 (by omega)); isplitr; · iexact HM
                     iexact H10
    isplitl [H11]; · iapply (hR true 1 (by omega)); isplitr; · iexact HM
                     iexact H11
    iapply (hR true 2 (by omega)); isplitr; · iexact HM
    iexact H12
  iexact H13

/-- A device's ghost state at the start of its body. -/
def bodyStart (c : Dev nD) : sProp 𝕄 :=
  iprop(barRes (F := F) c ∗ bigSep (Finset.Ico 0 7) (hopRes (F := F) c)
    ∗ (sidePos (F := F) c true ∗ sideFree (F := F) c true ∗ vCred (F := F) c true 7) ∗ (sidePos (F := F) c false ∗ sideFree (F := F) c false ∗ vCred (F := F) c false 7))

theorem bodyStart_intro (c : Dev nD) :
    iprop(marks (F := F) ∗ dealt (F := F) c ∗ Pipeline.launchCred (fun d => tallyL (duesOf d)) c) ⊢ bodyStart (F := F) c := by
  have hres : iprop(bigSep (Finset.range 7) (sideResAt (F := F) c true) ∗ bigSep (Finset.range 7) (sideResAt (F := F) c false)) ⊢ bigSep (Finset.Ico 0 7) (hopRes (F := F) c) := by
    rw [← bigSep_sep', Nat.Ico_zero_eq_range]
    exact bigSep_mono fun h hh => by
      have hh := Finset.mem_range.mp hh
      show _ ⊢ hopRes (F := F) c h
      unfold sideResAt hopRes
      rw [dif_pos hh, dif_pos hh, dif_pos hh]
  unfold dealt
  rw [kinds_split 0 (Or.inl rfl), wTok_open, rTok_open]
  iintro ⟨#HM, ⟨⟨Hab, Hat, Haf⟩, Htk, ⟨Hwt, Hwf⟩, Hrt, Hrf⟩, Hcr⟩
  ihave Htk := (toks_open (F := F) c) $$ Htk
  icases Htk with ⟨⟨Hb1, Hb2⟩, Htt, Htf⟩
  ihave Hcr := (creds (F := F) c) $$ Hcr
  icases Hcr with ⟨Hcb, Hct, Hcf⟩
  ihave Ht := (side_deal (F := F) c true) $$ [Htt Hwt Hrt Hct]
  · isplitr; · iexact HM
    isplitl [Htt]; · iexact Htt
    isplitl [Hwt]; · iexact Hwt
    isplitl [Hrt] <;> iassumption
  ihave Hf := (side_deal (F := F) c false) $$ [Htf Hwf Hrf Hcf]
  · isplitr; · iexact HM
    isplitl [Htf]; · iexact Htf
    isplitl [Hwf]; · iexact Hwf
    isplitl [Hrf] <;> iassumption
  icases Ht with ⟨Ht1, Ht2, Ht3⟩
  icases Hf with ⟨Hf1, Hf2, Hf3⟩
  unfold bodyStart barRes
  isplitl [Hab Hb1 Hb2 Hcb]
  · isplitl [Hcb]; · iexact Hcb
    isplitl [Hb1]
    · isplitl [Hb1]; · iexact Hb1
      iapply (marks_elim (F := F) (src true c) .bar); iexact HM
    isplitl [Hb2]
    · isplitl [Hb2]; · iexact Hb2
      iapply (marks_elim (F := F) (src false c) .bar); iexact HM
    iexact Hab
  isplitl [Ht1 Hf1]
  · iapply hres; isplitl [Ht1] <;> iassumption
  isplitl [Hat Ht2 Ht3]
  · isplitl [Hat]
    · iapply (side_positions (F := F) c true); isplitr; · iexact HM
      iexact Hat
    isplitl [Ht2] <;> iassumption
  · isplitl [Haf]
    · iapply (side_positions (F := F) c false); isplitr; · iexact HM
      iexact Haf
    isplitl [Hf2] <;> iassumption

end Cert.Proof

end
-- ==== Proof.Launch.lean ====
/-
  The launch: the cells' invariants allocated for all devices, the cells closed at the end, and the two buffers as their slots.
-/
module

public import proofs.«01_k».proof.Proof.Deal

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

/-! ### The semaphores, scoped and not -/

/-- The semaphores scoped to the call: all but the barrier's. -/
abbrev osem : {k : Kind // k ≠ .bar} → SemLoc sig := fun k => semOf k.1

theorem ownSemFacts : Pipeline.OwnSemFacts cfg0.spec osem := by decide +kernel

theorem sep_swap {M : Type} [URA M] (P Q : sProp M) : iprop(P ∗ Q) = iprop(Q ∗ P) := equiv_iff.mp ⟨BI.sep_comm, BI.sep_comm⟩

/-- A conjunction over all kinds, the barrier's apart. -/
theorem kinds_bar {M : Type} [URA M] (Φ : Kind → sProp M) :
    bigSep Finset.univ Φ = iprop((bigSep Finset.univ fun k : {k : Kind // k ≠ .bar} => Φ k.1) ∗ Φ .bar) := by
  have h : (Finset.univ : Finset Kind) = insert .bar ((Finset.univ : Finset {k : Kind // k ≠ .bar}).map (Function.Embedding.subtype _)) := by decide +kernel
  rw [h, bigSep_insert (by decide +kernel), bigSep_map]
  exact sep_swap _ _

/-- All counters of a device at zero. -/
def zeros (c : Dev nD) : sProp 𝕄 := bigSep Finset.univ fun k : Kind => semVal (cell c k) 0

theorem zeros_eq (c : Dev nD) : zeros (F := F) c
    = iprop(Pipeline.ownSems0 (Ix := ℕ) (Name := ℕ) (U := UU) (Lvl := ℕ) (Val := Elt F) (τ := τ) osem c ∗ unscopedSems0 c) := by
  have hu : (unscopedSems0 c : sProp 𝕄) = semVal (barCell c) 0 := by
    unfold unscopedSems0; rw [bigSep_eq_bigSepL_of_eq [SemLoc.reg barS] (by decide) (by decide)]; rfl
  unfold zeros
  rw [kinds_bar, hu]
  rfl

/-! ### The invariants of the cells -/

variable (B : Bool → Bool → Dev nD → Vec F S2048x256 .bf16)

/-- A device's share once the cells' invariants stand. -/
def G' (c : Dev nD) : sProp 𝕄 :=
  iprop((∃ nm : Names, (bigSep Finset.univ fun p : Dev nD × Kind => cellInv ER (Rd B) (nm.κ p.1 p.2) (cell p.1 p.2))
      ∗ (bigSep Finset.univ fun k : Key => Release.slotInv EL (nm.ι k) k (anyPair (F := F) k.1 k.2.1 (sl (k.2.2.val + 1)))))
    ∗ marks (F := F) ∗ dealt c)

theorem core_alloc (c : Dev nD) :
    iprop(Pipeline.ownSems0 (Ix := ℕ) (Name := ℕ) (U := UU) (Lvl := ℕ) (Val := Elt F) (τ := τ) osem c ∗ unscopedSems0 c ∗ G B c)
      ⊢ |={Set.univ}=> iprop((bigSep Finset.univ fun k : Kind => iprop(∃ κ : ℕ, cellInv ER (Rd B) κ (cell c k)))
          ∗ (marks (F := F) ∗ slotsKnown (F := F)) ∗ dealt c) := by
  unfold G
  iintro ⟨Hos, Hus, Hst, HM, Hd⟩
  ihave Hv := (Entails.of_eq (zeros_eq (F := F) c).symm) $$ [Hos Hus]
  · isplitl [Hos] <;> iassumption
  unfold zeros
  imod (show iprop((bigSep Finset.univ fun k : Kind => semVal (cell c k) 0) ∗ bigSep Finset.univ fun k : Kind => roundState ER (Rd B) (cell c k) 0)
      ⊢ (|={Set.univ}=> bigSep Finset.univ fun k : Kind => iprop(∃ κ : ℕ, cellInv ER (Rd B) κ (cell c k)) : sProp 𝕄) from by
        rw [← bigSep_sep']
        exact (bigSep_mono fun k _ => (Rounds.body_intro ER (Rd B) (cell c k)).trans inv_alloc).trans (bigSep_fupd _ _)) $$ [Hv Hst] with Hinv
  · isplitl [Hv] <;> iassumption
  imodintro
  isplitl [Hinv]; · iexact Hinv
  isplitl [HM]; · iexact HM
  iexact Hd

/-- The invariants of all devices' cells and slots, known to each. -/
theorem glob : (bigSep Finset.univ fun c => iprop(Pipeline.ownSems0 (Ix := ℕ) (Name := ℕ) (U := UU) (Lvl := ℕ) (Val := Elt F) (τ := τ) osem c ∗ unscopedSems0 c ∗ G B c) : sProp 𝕄)
    ⊢ |={Set.univ}=> bigSep Finset.univ (G' B) := by
  refine BI.Entails.trans ((bigSep_mono fun c _ => core_alloc B c).trans (bigSep_fupd _ _)) (BI.fupd_mono (?_ : (_ : sProp 𝕄) ⊢ _))
  rw [bigSep_sep', bigSep_sep', ← bigSep_univ_prod (fun p : Dev nD × Kind => iprop(∃ κ : ℕ, cellInv ER (Rd B) κ (cell p.1 p.2)))]
  iintro ⟨HI, Hk, Hd⟩
  ihave HK := (BI.bigSep_exists_pi Finset.univ (fun (p : Dev nD × Kind) (κ : ℕ) => (cellInv ER (Rd B) κ (cell p.1 p.2) : sProp 𝕄))) $$ HI
  icases HK with ⟨%κ, #HI⟩
  ihave #Hk := (show (bigSep Finset.univ fun _ : Dev nD => iprop(marks (F := F) ∗ slotsKnown (F := F))) ⊢ (iprop(marks (F := F) ∗ slotsKnown (F := F)) : sProp 𝕄) from
    bigSep_elim (Finset.mem_univ (0 : Dev nD))) $$ Hk
  icases Hk with ⟨#HM, #HS⟩
  unfold slotsKnown
  icases HS with ⟨%ι, #HS⟩
  iapply (sep_persistent (R := iprop(((bigSep Finset.univ fun p : Dev nD × Kind => cellInv ER (Rd B) (κ p) (cell p.1 p.2))
      ∗ (bigSep Finset.univ fun k : Key => Release.slotInv EL (ι k) k (anyPair (F := F) k.1 k.2.1 (sl (k.2.2.val + 1))))) ∗ marks (F := F)))
    (Φ := fun c => dealt (F := F) c) (Ψ := G' B) fun c _ => by
      unfold G'
      iintro ⟨⟨H1, H2⟩, H3⟩
      isplitl [H1]; · iexists (⟨fun c k => κ (c, k), ι⟩ : Names); iexact H1
      isplitl [H2] <;> iassumption)
  isplitr
  · isplitr
    · isplitr; · iexact HI
      iexact HS
    iexact HM
  iexact Hd

/-! ### The cells closed -/

variable (nm : Names)

theorem close_cell (c : Dev nD) (k : Kind) (R : ℕ) (hR : ∀ r, R ≤ r → nDuties k r = 0) :
    iprop(recs B nm ∗ atPos (ER (F := F)) (cell c k) R ∅ 0) ⊢ (|={Set.univ}=> semVal (cell c k) 0 : sProp 𝕄) :=
  (sep_mono_left (recs_cell B nm c k)).trans
    (Rounds.cell_close ER (Rd B) (Set.mem_univ _) (fun h => h) fun r hr => by rw [duties_cell, hR r hr, Finset.range_zero])

theorem close_S (c : Dev nD) (σ kv : Bool) {h : ℕ} (hh : 7 ≤ h) :
    iprop(recs B nm ∗ posS c σ kv h) ⊢ (|={Set.univ}=> semVal (sndCell c σ kv h) 0 : sProp 𝕄) := by
  unfold posS
  iintro ⟨HI, H, -⟩
  iapply (close_cell B nm c (.snd σ kv (sl h)) (h / 3) (nDuties_snd_end σ kv hh))
  isplitl [HI] <;> iassumption

theorem close_R (c : Dev nD) (σ kv : Bool) {h : ℕ} (hh : 7 ≤ h) :
    iprop(recs B nm ∗ posR c σ kv h) ⊢ (|={Set.univ}=> semVal (rcvCell c σ kv h) 0 : sProp 𝕄) := by
  unfold posR
  iintro ⟨HI, H, -⟩
  iapply (close_cell B nm c (.rcv σ kv (sl (h + 1))) (h / 3) (nDuties_rcv_end σ kv hh))
  isplitl [HI] <;> iassumption

/-- A side's three send cells of one half; its three receive cells. -/
theorem close_3S (c : Dev nD) (σ kv : Bool) : iprop(recs B nm ∗ pos3S c σ kv 7)
    ⊢ (|={Set.univ}=> iprop(semVal (sndCell c σ kv 7) 0 ∗ semVal (sndCell c σ kv (7 + 1)) 0 ∗ semVal (sndCell c σ kv (7 + 2)) 0) : sProp 𝕄) := by
  unfold pos3S
  iintro ⟨#HI, H1, H2, H3⟩
  imod (close_S B nm c σ kv (h := 7) (by omega)) $$ [H1] with H1
  · isplitr; · iexact HI
    iexact H1
  imod (close_S B nm c σ kv (h := 7 + 1) (by omega)) $$ [H2] with H2
  · isplitr; · iexact HI
    iexact H2
  imod (close_S B nm c σ kv (h := 7 + 2) (by omega)) $$ [H3] with H3
  · isplitr; · iexact HI
    iexact H3
  imodintro
  isplitl [H1]; · iexact H1
  isplitl [H2] <;> iassumption
@[inherit_doc close_3S] theorem close_3R (c : Dev nD) (σ kv : Bool) : iprop(recs B nm ∗ pos3R c σ kv 7)
    ⊢ (|={Set.univ}=> iprop(semVal (rcvCell c σ kv 7) 0 ∗ semVal (rcvCell c σ kv (7 + 1)) 0 ∗ semVal (rcvCell c σ kv (7 + 2)) 0) : sProp 𝕄) := by
  unfold pos3R
  iintro ⟨#HI, H1, H2, H3⟩
  imod (close_R B nm c σ kv (h := 7) (by omega)) $$ [H1] with H1
  · isplitr; · iexact HI
    iexact H1
  imod (close_R B nm c σ kv (h := 7 + 1) (by omega)) $$ [H2] with H2
  · isplitr; · iexact HI
    iexact H2
  imod (close_R B nm c σ kv (h := 7 + 2) (by omega)) $$ [H3] with H3
  · isplitr; · iexact HI
    iexact H3
  imodintro
  isplitl [H1]; · iexact H1
  isplitl [H2] <;> iassumption

theorem close_side (c : Dev nD) (σ : Bool) :
    iprop(recs B nm ∗ sidePosEnd (F := F) c σ) ⊢ (|={Set.univ}=> bigSepL (kindsL σ 7) (fun k => semVal (cell c k) 0) : sProp 𝕄) := by
  unfold sidePosEnd
  rw [kindsL_open]
  iintro ⟨#HI, H1, H2, H3, H4, H5⟩
  imod (close_3S B nm c σ false) $$ [H1] with ⟨H11, H12, H13⟩
  · isplitr; · iexact HI
    iexact H1
  imod (close_3S B nm c σ true) $$ [H2] with ⟨H21, H22, H23⟩
  · isplitr; · iexact HI
    iexact H2
  imod (close_3R B nm c σ false) $$ [H3] with ⟨H31, H32, H33⟩
  · isplitr; · iexact HI
    iexact H3
  imod (close_3R B nm c σ true) $$ [H4] with ⟨H41, H42, H43⟩
  · isplitr; · iexact HI
    iexact H4
  imod (close_cell B nm c (.rdy σ) 1 (fun r hr => if_neg (by omega))) $$ [H5] with H5
  · isplitr; · iexact HI
    iexact H5
  imodintro
  isplitl [H11]; · iexact H11
  isplitl [H12]; · iexact H12
  isplitl [H13]; · iexact H13
  isplitl [H21]; · iexact H21
  isplitl [H22]; · iexact H22
  isplitl [H23]; · iexact H23
  isplitl [H31]; · iexact H31
  isplitl [H32]; · iexact H32
  isplitl [H33]; · iexact H33
  isplitl [H41]; · iexact H41
  isplitl [H42]; · iexact H42
  isplitl [H43]; · iexact H43
  iexact H5

/-- All cells closed, all counters at zero. -/
theorem close_all (c : Dev nD) :
    iprop(recs B nm ∗ atPos (ER (F := F)) (barCell c) 1 ∅ 0 ∗ sidePosEnd (F := F) c true ∗ sidePosEnd (F := F) c false) ⊢ (|={Set.univ}=> zeros c : sProp 𝕄) := by
  unfold zeros
  rw [kinds_split 7 (Or.inr rfl)]
  iintro ⟨#HI, Hb, Ht, Hf⟩
  imod (close_cell B nm c .bar 1 (fun r hr => if_neg (by omega))) $$ [Hb] with Hb
  · isplitr; · iexact HI
    iexact Hb
  imod (close_side B nm c true) $$ [Ht] with Ht
  · isplitr; · iexact HI
    iexact Ht
  imod (close_side B nm c false) $$ [Hf] with Hf
  · isplitr; · iexact HI
    iexact Hf
  imodintro
  isplitl [Hb]; · iexact Hb
  isplitl [Ht] <;> iassumption

/-! ### The two buffers as their slots -/

theorem slots_disjoint (t t' : Fin 3 × Bool) (h : t ≠ t') : Disjoint (slotR t.1 t.2).set (slotR t'.1 t'.2).set := by
  rw [Finset.disjoint_left]
  intro i hi hi'
  have h1 := Rect.mem_set_unit.mp hi
  have h2 := Rect.mem_set_unit.mp hi'
  have a1 := h1 0; have a2 := h1 1; have b1 := h2 0; have b2 := h2 1
  apply h
  obtain ⟨s, kv⟩ := t
  obtain ⟨s', kv'⟩ := t'
  have e1 : s = s' := by
    simp [slotOff] at a1 b1
    exact Fin.ext (by omega)
  have e2 : kv = kv' := by
    simp [slotOff] at a2 b2
    cases kv <;> cases kv' <;> simp at a2 b2 ⊢ <;> omega
  rw [e1, e2]

theorem slots_cover : (Finset.univ : Finset (Fin 3 × Bool)).biUnion (fun t => (slotR t.1 t.2).set) = Finset.univ := by
  ext i
  simp only [Finset.mem_univ, iff_true, Finset.mem_biUnion, true_and]
  have h0 := (i 0).isLt
  have h1 := (i 1).isLt
  have h2 := (i 2).isLt
  have h3 := (i 3).isLt
  refine ⟨(⟨(i 0).val, h0⟩, decide ((i 1).val = 1)), Rect.mem_set_unit.mpr fun a => ?_⟩
  have h1' : (i 1).val < 2 := h1
  fin_cases a
  · exact ⟨le_refl _, Nat.lt_succ_self _⟩
  · by_cases e : (i 1).val = 1
    · simp [slotOff, e]
    · have e' : (i 1).val = 0 := by omega
      simp [slotOff, e']
  · exact ⟨Nat.zero_le _, by simpa [slotOff] using h2⟩
  · exact ⟨Nat.zero_le _, by simpa [slotOff] using h3⟩

theorem slots_list (c : Dev nD) (σ : Bool) :
    (bigSep Finset.univ fun t : Fin 3 × Bool => anySlot (F := F) c σ t.2 t.1)
      ⊣⊢ sideSlots (F := F) c σ := by
  rw [bigSep_univ_prod, bigSep_univ_eq_bigSepL [(0 : Fin 3), 1, 2] (by decide) (by decide)]
  simp only [sep_bool]
  rw [show (bigSepL [(0 : Fin 3), 1, 2] fun a => iprop(anySlot (F := F) c σ true a ∗ anySlot (F := F) c σ false a))
    = iprop((anySlot (F := F) c σ true 0 ∗ anySlot (F := F) c σ false 0) ∗ (anySlot (F := F) c σ true 1 ∗ anySlot (F := F) c σ false 1)
      ∗ (anySlot (F := F) c σ true 2 ∗ anySlot (F := F) c σ false 2)) from rfl]
  unfold sideSlots anyPair
  constructor
  · iintro ⟨⟨H1, H2⟩, ⟨H3, H4⟩, H5, H6⟩
    isplitl [H1 H2]; · isplitl [H2] <;> iassumption
    isplitl [H3 H4]; · isplitl [H4] <;> iassumption
    isplitl [H6] <;> iassumption
  · iintro ⟨⟨H1, H2⟩, ⟨H3, H4⟩, H5, H6⟩
    isplitl [H1 H2]; · isplitl [H2] <;> iassumption
    isplitl [H3 H4]; · isplitl [H4] <;> iassumption
    isplitl [H6] <;> iassumption

/-- A slot's share, as a slice of its buffer. -/
theorem slot_slice (c : Dev nD) (σ : Bool) (t : Fin 3 × Bool) :
    (ownsSat (c : Thread nD τ) ((buf σ).slice (slotR t.1 t.2) (fun _ => rfl)) fullShare (fun _ => True) : sProp 𝕄)
      ⊣⊢ anySlot (F := F) c σ t.2 t.1 := by
  unfold anySlot ownsSat
  have h : (slot σ t.2 t.1).view.set = ((buf σ).slice (slotR t.1 t.2) (fun _ => rfl)).view.set := View.set_reshape _ _
  rw [h]
  exact .rfl

/-- A side's buffer, at some contents, is its slots at some contents. -/
theorem slots_of_buf (c : Dev nD) (σ : Bool) :
    iprop(∃ f : Buf (Elt F) ((buf σ).view.loc (c : Thread nD τ)), (buf σ).view.loc (c : Thread nD τ) ↦{fullShare} f) ⊣⊢ sideSlots (F := F) c σ := by
  have hs : (buf σ).view.set = Finset.univ := (buf_whole σ).set_eq_univ
  have h0 : iprop(∃ f : Buf (Elt F) ((buf σ).view.loc (c : Thread nD τ)), (buf σ).view.loc (c : Thread nD τ) ↦{fullShare} f)
      ⊣⊢ (ownsSat (c : Thread nD τ) (buf σ) fullShare (fun _ => True) : sProp 𝕄) := by
    unfold ownsSat
    rw [hs]
    constructor
    · iintro ⟨%f, H⟩; iexists f; isplitr; · ipureintro; trivial
      iexact H
    · iintro ⟨%f, -, H⟩; iexists f; iexact H
  constructor
  · refine h0.1.trans (BI.Entails.trans ?_ (slots_list c σ).1)
    refine BI.Entails.trans ?_ (bigSep_mono fun t _ => (slot_slice c σ t).1)
    refine BI.Entails.trans ?_ (ownsSat_rects (c : Thread nD τ) (buf σ) fullShare (fun t : Fin 3 × Bool => slotR t.1 t.2) (fun _ _ => rfl) slots_disjoint slots_cover fun _ _ => True)
    exact ownsSat_mono _ _ _ fun _ _ _ => trivial
  · refine BI.Entails.trans ?_ h0.2
    refine (slots_list c σ).2.trans ?_
    refine BI.Entails.trans (bigSep_mono fun t _ => (slot_slice c σ t).2) ?_
    refine BI.Entails.trans (ownsSat_of_rects (c : Thread nD τ) (buf σ) fullShare (fun t : Fin 3 × Bool => slotR t.1 t.2) (fun _ _ => rfl) slots_disjoint slots_cover fun _ _ => True) ?_
    exact ownsSat_mono _ _ _ fun _ _ => trivial

end Cert.Proof

end
-- ==== Proof.Run.lean ====
/-
  The run of the idealized program: the proof data of its call, the launch theorem's conditions, and what every execution leaves.
-/
module

public import proofs.«01_k».proof.Proof.Launch
public import proofs.«01_k».proof.Proof.Gen.KernelIdeal.Frame
public import Idealize.ShloMosaic.Lib.Pipeline.CollectiveSegs

@[expose] public section

set_option synthInstance.maxSize 4096

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Idealize.ShloMosaic.SiteBlocks (L lv mem_L' mayWait_of)

variable {F : FTy → Type} [FloatOps F]

local notation "𝕄" => MT nD τ sig ℕ (Elt F) ℕ UU ℕ

variable (m : (ℓ : Loc nD τ sig) → Buf (Elt F) ℓ) (ρ : Dev nD → PrngReg)

/-! ### The contents -/

/-- A device's queries, keys and values, as they are staged. -/
def qIn (c : Dev nD) : qM.view.ty.Contents (Elt F) := iblk m c 0 t0_0
@[inherit_doc qIn] def kIn' (c : Dev nD) : kM.view.ty.Contents (Elt F) := iblk m c 1 t0_0
@[inherit_doc qIn] def vIn (c : Dev nD) : vM.view.ty.Contents (Elt F) := iblk m c 2 t0_0

/-- The half blocks of all devices. -/
abbrev blks : Bool → Bool → Dev nD → Vec F S2048x256 .bf16 := blk (kIn' m) (vIn m)

/-- A device's result. -/
def res (c : Dev nD) : oM.view.ty.Contents (Elt F) := outAt (blks m) (qb (qIn m c)) c

/-! ### The proof data -/

/-- What a device's body starts from. -/
def start (c : Dev nD) : sProp 𝕄 := iprop((∃ nm : Names, recs (blks m) nm) ∗ bodyStart (F := F) c)

def Φ₀ (c : Dev nD) : sProp 𝕄 := iprop(start m c ∗ Pipeline.scopedRest cfg0.spec c)
def Φ₁ (c : Dev nD) : sProp 𝕄 := iprop(zeros (F := F) c ∗ Pipeline.scopedRest cfg0.spec c)

def O₀ (c : Dev nD) : CellTallies nD τ sig ℕ := tallyL (duesOf c)

def dats (_ : Fin 1) (c : Dev nD) : Pipeline.Dat τ (Elt F) ℕ ℕ UU ℕ cfg0 c where
  A w := m ((cfg0.win w).arr.view.loc (c : Thread nD τ))
  after w _ := match w with
    | ⟨0, _⟩ => qIn m c
    | ⟨1, _⟩ => kIn' m c
    | ⟨2, _⟩ => vIn m c
    | ⟨3, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Pipeline.Dat.share; split <;> rfl

/-- The scratch buffers: the rounded queries', the two sides' and the sums'. -/
theorem scoped_split (c : Dev nD) : (Pipeline.scopedRest (Ix := ℕ) (Name := ℕ) (U := UU) (Lvl := ℕ) (Val := Elt F) cfg0.spec c : sProp 𝕄)
    = iprop((∃ f : Buf (Elt F) (qbM.view.loc (c : Thread nD τ)), qbM.view.loc (c : Thread nD τ) ↦{fullShare} f)
      ∗ (∃ f : Buf (Elt F) ((buf true).view.loc (c : Thread nD τ)), (buf true).view.loc (c : Thread nD τ) ↦{fullShare} f)
      ∗ (∃ f : Buf (Elt F) ((buf false).view.loc (c : Thread nD τ)), (buf false).view.loc (c : Thread nD τ) ↦{fullShare} f)
      ∗ (∃ f : Buf (Elt F) (lM.view.loc (c : Thread nD τ)), lM.view.loc (c : Thread nD τ) ↦{fullShare} f)) := scopedRest0_eq c

theorem stage_owns (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_0 (c : Dev nD) (d) : (dats m 0 c).before (0 : Fin 4) t0_0 d = qIn m c := by
  unfold Pipeline.Dat.before; rw [if_pos (show (cfg0.win (0 : Fin 4)).fetch t0_0 = true from rfl)]; rfl
theorem before_1 (c : Dev nD) (d) : (dats m 0 c).before (1 : Fin 4) t0_0 d = kIn' m c := by
  unfold Pipeline.Dat.before; rw [if_pos (show (cfg0.win (1 : Fin 4)).fetch t0_0 = true from rfl)]; rfl
theorem before_2 (c : Dev nD) (d) : (dats m 0 c).before (2 : Fin 4) t0_0 d = vIn m c := by
  unfold Pipeline.Dat.before; rw [if_pos (show (cfg0.win (2 : Fin 4)).fetch t0_0 = true from rfl)]; rfl

def bodyPre (c : Dev nD) : sProp 𝕄 :=
  iprop(Φ₀ m c ∗ (dats m 0 c).owesAt 0 t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ (F := F) c ∗ (dats m 0 c).owesAt 0 t0_0.succ
    ∗ stg c cc0_stg0_0 (qIn m c) ∗ stg c cc0_stg1_0 (kIn' m c) ∗ stg c cc0_stg2_0 (vIn m c) ∗ stg c cc0_stg3_0 (res m c))

/-- What the body leaves, once its cells are closed. -/
theorem body_end (nm : Names) (c : Dev nD) :
    iprop(recs (blks m) nm ∗ ow c [] ∗ atPos (ER (F := F)) (barCell c) 1 ∅ 0
        ∗ ((sidePosEnd (F := F) c true ∗ sideSlots (F := F) c true) ∗ (sidePosEnd (F := F) c false ∗ sideSlots (F := F) c false))
        ∗ stagedIn c (qIn m c) (kIn' m c) (vIn m c)
        ∗ (∃ f : Buf (Elt F) (qbM.view.loc (c : Thread nD τ)), qbM.view.loc (c : Thread nD τ) ↦{fullShare} f)
        ∗ (oM.view.loc (c : Thread nD τ) ↦{fullShare} res m c)
        ∗ (∃ f : Buf (Elt F) (lM.view.loc (c : Thread nD τ)), lM.view.loc (c : Thread nD τ) ↦{fullShare} f))
      ⊢ (|={Set.univ}=> bodyPost m c : sProp 𝕄) := by
  unfold stagedIn ow
  iintro ⟨#HI, ⟨%W, HO⟩, Hb, ⟨⟨Ht, Hst⟩, Hf, Hsf⟩, ⟨Hq, Hk, Hv⟩, Hqb, Ho, Hl⟩
  imod (close_all (blks m) nm c) $$ [Hb Ht Hf] with Hz
  · isplitr; · iexact HI
    isplitl [Hb]; · iexact Hb
    isplitl [Ht] <;> iassumption
  imodintro
  unfold bodyPost Φ₁ Pipeline.Dat.owesAt Pipeline.owesWithin
  rw [show (dats m 0 c).owed t0_0.succ = 0 from rfl, scoped_split]
  isplitl [Hz Hqb Hst Hsf Hl]
  · isplitl [Hz]; · iexact Hz
    isplitl [Hqb]; · iexact Hqb
    isplitl [Hst]; · iapply (slots_of_buf (F := F) c true).2; iexact Hst
    isplitl [Hsf]; · iapply (slots_of_buf (F := F) c false).2; iexact Hsf
    iexact Hl
  isplitl [HO]
  · iexists W; isplitr; · ipureintro; exact fun _ _ => Or.inl trivial
    iexact HO
  isplitl [Hq]; · iexists _; isplitr; · (ipureintro; rfl)
                  iexact Hq
  isplitl [Hk]; · iexists _; isplitr; · (ipureintro; rfl)
                  iexact Hk
  isplitl [Hv]; · iexists _; isplitr; · (ipureintro; rfl)
                  iexact Hv
  iexists _; isplitr; · (ipureintro; rfl)
  iexact Ho

theorem sound_body (c : Dev nD) : bodyPre m c ⊢ wpc c (bodyP (F := F)) (fun _ => bodyPost m c) := by
  unfold bodyPre Φ₀ start bodyStart
  rw [scoped_split]
  simp only [before_0, before_1, before_2]
  unfold Pipeline.Dat.owesAt Pipeline.owesWithin
  rw [show (dats m 0 c).owed t0_0.castSucc = O₀ c from rfl]
  iintro ⟨⟨⟨⟨%nm, #HI⟩, Hbar, Hres, ⟨Hp1, Hf1, Hv1⟩, Hp2, Hf2, Hv2⟩, Hqb, Hbt, Hbf, Hl⟩, ⟨%W, -, HO⟩,
    ⟨%d0, %g0, %e0, Hq⟩, ⟨%d1, %g1, %e1, Hk⟩, ⟨%d2, %g2, %e2, Hv⟩, ⟨%d3, %g3, -, Ho⟩⟩
  subst e0 e1 e2
  ihave Hst := (slots_of_buf (F := F) c true).1 $$ Hbt
  ihave Hsf := (slots_of_buf (F := F) c false).1 $$ Hbf
  iapply (wp_fupd frame (wpE (defs₀ (F := F)) 𝒱₀ (c : Thread nD τ) none) Set.univ (bodyP (F := F)) (fun _ => bodyPost m c))
  iapply (wp_wand_r (Fr := frame) (wpE := wpE (defs₀ (F := F)) 𝒱₀ (c : Thread nD τ) none) (E := Set.univ))
  isplitl [Hbar Hres Hp1 Hf1 Hv1 Hp2 Hf2 Hv2 Hqb Hst Hsf Hl HO Hq Hk Hv Ho]
  · iapply (wp_bodyP nm c (qIn m c) (kIn' m) (vIn m))
    isplitr; · iexact HI
    isplitl [HO]; · unfold ow; iexists W; iexact HO
    isplitl [Hbar]; · iexact Hbar
    isplitl [Hres]; · iexact Hres
    isplitl [Hp1 Hf1 Hv1 Hp2 Hf2 Hv2 Hst Hsf]
    · isplitl [Hp1 Hf1 Hv1 Hst]
      · isplitl [Hp1]; · iexact Hp1
        isplitl [Hf1]; · iexact Hf1
        isplitl [Hst] <;> iassumption
      · isplitl [Hp2]; · iexact Hp2
        isplitl [Hf2]; · iexact Hf2
        isplitl [Hsf] <;> iassumption
    isplitl [Hq Hk Hv]
    · unfold stagedIn
      isplitl [Hq]; · iexact Hq
      isplitl [Hk]; · iexact Hk
      iexact Hv
    unfold localAny
    isplitl [Hqb]; · iexact Hqb
    isplitl [Ho]; · iexists g3; iexact Ho
    iexact Hl
  iintro %a H
  iapply (body_end m nm c)
  isplitr; · iexact HI
  iexact H

/-- The body, as the call runs it. -/
theorem body_obligation (c : Dev nD) : Pipeline.BodyObligation (dats (F := F) m 0 c) (defs₀ (F := F)) 𝒱₀ 0 Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  have h := sound_body m c
  rw [← body_eq] at h
  unfold bodyPre bodyPost stg at h
  simp only [← stage_owns] at h
  exact h

/-! ### The launch -/

def u₀ : UU :=
  (initOf (Pipeline.cells cfgs cellOf_inj) (Pipeline.launchToks cfgs cellOf_inj), initOf allCells allToks, Release.initSlots Finset.univ 1)

theorem start_intro (c : Dev nD) :
    iprop(Pipeline.unscopedRestP Pipeline.Prefetch.none cfg0.spec c (fun b => m ((c : Thread nD τ).loc b)) ∗ levAts (L 100) lv
        ∗ Pipeline.launchCred O₀ c ∗ prngReg c (ρ c) ∗ G' (blks m) c)
      ⊢ (|={Set.univ}=> iprop(start m c ∗ emp) : sProp 𝕄) := by
  unfold G'
  iintro ⟨-, Hlev, Hcr, -, ⟨⟨%nm, Hc, Hs⟩, HM, Hd⟩⟩
  imodintro
  unfold start
  isplitl; swap; · iempintro
  isplitl [Hlev Hc Hs]
  · iexists nm; unfold recs
    isplitl [Hc]; · iexact Hc
    isplitl [Hs]; · iexact Hs
    iexact Hlev
  iapply (bodyStart_intro (F := F) c)
  isplitl [HM]; · iexact HM
  isplitl [Hd]; · iexact Hd
  iexact Hcr

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [zeros_eq]
  iintro ⟨⟨Ho, Hu⟩, Hr⟩
  isplitl [Hu]; · iexact Hu
  isplitl [Ho] <;> iassumption

theorem below_dues (c : Dev nD) : Below 0 (duesOf c) :=
  .cons ⟨rfl, Nat.one_pos, by show 1 < 100; omega⟩ (.cons ⟨rfl, Nat.one_pos, by show 1 < 100; omega⟩ (below_paysFrom c (by omega)))

theorem waits (c : Dev nD) : (levAts (L 100) lv : sProp 𝕄) ⊢ Pipeline.cellsWaits cfgs (dats m) 0 0 c :=
  Pipeline.cellsWaits_intro cfgs (dats m) 0 0 c fun w s t => by
    rcases t with ⟨_ | _, ht⟩
    · exact mayWait_of (by omega) c _ _ fun g k hg => by
        obtain ⟨x, hx, rfl, rfl⟩ := tallyL_pos hg
        exact ⟨mem_L' (below_dues c x hx).1 (below_dues c x hx).2.2, (below_dues c x hx).2.1⟩
    · show _ ⊢ MayWait _ _ _ 0
      rw [MayWait_zero]; iintro -; iempintro

/-- An array's contents after the run. -/
def finalA (c : Dev nD) (w : Fin cfg0.W) : Buf (Elt F) ((cfg0.win w).arr.view.loc (c : Thread nD τ)) := (dats m 0 c).arrAt w cfg0.N

set_option maxRecDepth 8000 in
/-- For any float values and from any memory with zero counters: every weakly fair execution on the eight devices ends, each array
    at its computed contents and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L 100) (lv := lv) (hL := SiteBlocks.hL 100) (hwaits := waits m)
    (G := G (blks m)) (G' := G' (blks m)) (u₀ := u₀)
    (hu₀ := by
      unfold u₀
      iintro Hu
      ihave H := (ownU_pair _ _) $$ Hu
      icases H with ⟨HP, HX⟩
      ihave HX := (own_pair_emb embR _ _) $$ HX
      imod (fund (blks m)) $$ HX with HG
      imodintro
      isplitl [HP] <;> iassumption)
    (hglob := glob (blks m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### What the run leaves -/

theorem final_q (c : Dev nD) : finalA m c (0 : Fin 4) = m ((c : Thread nD τ).loc main_arg0) := (dats (F := F) m 0 c).arrAt_in (0 : Fin 4) rfl _
theorem final_k (c : Dev nD) : finalA m c (1 : Fin 4) = m ((c : Thread nD τ).loc main_arg1) := (dats (F := F) m 0 c).arrAt_in (1 : Fin 4) rfl _
theorem final_v (c : Dev nD) : finalA m c (2 : Fin 4) = m ((c : Thread nD τ).loc main_arg2) := (dats (F := F) m 0 c).arrAt_in (2 : Fin 4) rfl _

/-- The arguments are left as they were, and every counter is at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c (0 : Fin 4)).trans (final_q m c), (h.1 c (1 : Fin 4)).trans (final_k m c), (h.1 c (2 : Fin 4)).trans (final_v m c)⟩, h.2⟩)
    (run_main m ρ)

end Cert.Proof

end
-- ==== Proof.Frames.lean ====
/-
  The frames of the printed kernel and of its idealization: the two programs have the same text, so the one run, proved for any float
  values, serves both.
-/
module

public import proofs.«01_k».proof.Defs
public import proofs.«01_k».proof.Proof.Run
public import proofs.«01_k».proof.Proof.Gen.Kernel

@[expose] public section

noncomputable section

namespace Cert.Proof

open Idealize.ShloMosaic Idealize.SL.Sem
open Cert.Kernel.Gen Cert.KernelIdeal.Gen

variable {F : FTy → Type} [FloatOps F]

/-- The two programs' bodies have the same text, -/
theorem body_same : Cert.Kernel.cc0_body (F := F) = Cert.KernelIdeal.cc0_body (F := F) := rfl

/-- so their body tables are one, -/
theorem table_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- with their calls' tables. -/
theorem defs_same : Cert.Kernel.defs (F := F) = Cert.KernelIdeal.defs (F := F) :=
  congrArg (Idealize.ShloMosaic.Pipeline.defs (Cert.KernelIdeal.pcfgs (F := F))) table_same

theorem frame_ideal : Cert.quiescent_KernelIdeal := fun m ρ _ => run_frame (F := Ideal) m ρ

theorem frame_kernel : Cert.quiescent_Kernel := fun m ρ _ => by
  rw [defs_same]
  exact run_frame (F := Bits) m ρ

end Cert.Proof

end
-- ==== Proof.Ref.lean ====
/-
  The run of the reference: its operations in order, what they leave in the result buffer, and its frame.
-/
module

public import proofs.«01_k».proof.Defs
public import proofs.«01_k».proof.Proof.Gen.ReferenceIdeal
public import Idealize.ShloMosaic.Lib.StableHlo.Run
public import Idealize.ShloMosaic.Lib.Claim

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The whole queries, keys, values or results. -/
abbrev Whole (F : FTy → Type) [FloatOps F] := Vec F S32768x256 .f32

/-- The scores: each query's products with the keys, divided by the square root of the features' number. -/
def scores (q k : Whole F) : Vec F S32768x32768 .f32 :=
  Host.divf (Host.dotGeneral dot_S32768x256_S256x32768_S32768x32768_1_0_0_1_n_n none q (transpose S256x32768 [1, 0] k transposes_S32768x256_S256x32768_1_0))
    (broadcastInDim S32768x32768 ![] bcast_S_S32768x32768 (id (Host.sqrt (constant S_ .f32 0x43800000#32))))

/-- A column of row values, over the whole row. -/
def rows (x : Vec F S32768 .f32) : Vec F S32768x32768 .f32 :=
  broadcastInDim S32768x32768 ![0, 1] bcast_S32768x1_S32768x32768_0_1 (broadcastInDim S32768x1 ![0] bcast_S32768_S32768x1_0 x)

/-- The exponentials of the scores less their rows' largest. -/
def expo (s : Vec F S32768x32768 .f32) : Vec F S32768x32768 .f32 :=
  Host.exp (subf s (rows (Host.reduce FloatOps.maximumf s (constant S_ .f32 0xFF800000#32) reducesTo_S32768x32768_S32768_d1 h_S_)))

/-- The weights: the exponentials over their rows' sums. -/
def weights (e : Vec F S32768x32768 .f32) : Vec F S32768x32768 .f32 :=
  Host.divf e (rows (Host.reduceAdd e (constant S_ .f32 0x00000000#32) reducesTo_S32768x32768_S32768_d1 h_S_))

/-- The reference's result. -/
def attn (q k v : Whole F) : Whole F :=
  Host.dotGeneral dot_S32768x32768_S32768x256_S32768x256_1_0_0_1_n_n none (weights (expo (scores q k))) v

/-- @main's operations, in order. -/
abbrev ops : List (HloOp τ sig (Elt F)) :=
  [ unary main_arg1 main_v0 (transpose S256x32768 [1, 0] · transposes_S32768x256_S256x32768_1_0),
    binary main_arg0 main_v0 main_v1 (fun l r => Host.dotGeneral dot_S32768x256_S256x32768_S32768x32768_1_0_0_1_n_n none l r),
    nullary main_cst (constant S_ .f32 0x43800000#32),
    unary main_cst main_v2 Host.sqrt,
    unary main_v2 main_v3 id,
    unary main_v3 main_v4 (broadcastInDim S32768x32768 ![] bcast_S_S32768x32768),
    binary main_v1 main_v4 main_v5 Host.divf,
    nullary main_cst_0 (constant S_ .f32 0xFF800000#32),
    binary main_v5 main_cst_0 main_v6 (fun x v => Host.reduce FloatOps.maximumf x v reducesTo_S32768x32768_S32768_d1 h_S_),
    unary main_v6 main_v7 (broadcastInDim S32768x1 ![0] bcast_S32768_S32768x1_0),
    unary main_v7 main_v8 (broadcastInDim S32768x32768 ![0, 1] bcast_S32768x1_S32768x32768_0_1),
    binary main_v5 main_v8 main_v9 subf,
    unary main_v9 main_v10 Host.exp,
    nullary main_cst_1 (constant S_ .f32 0x00000000#32),
    binary main_v10 main_cst_1 main_v11 (fun x v => Host.reduceAdd x v reducesTo_S32768x32768_S32768_d1 h_S_),
    unary main_v11 main_v12 (broadcastInDim S32768x1 ![0] bcast_S32768_S32768x1_0),
    unary main_v12 main_v13 (broadcastInDim S32768x32768 ![0, 1] bcast_S32768x1_S32768x32768_0_1),
    binary main_v10 main_v13 main_v14 Host.divf,
    binary main_v14 main_arg2 main_v15 (fun l r => Host.dotGeneral dot_S32768x32768_S32768x256_S32768x256_1_0_0_1_n_n none l r) ]

theorem main_eq (c : Dev nD) : main (F := F) c = seq ops := rfl

theorem out_eq (V : Valuation τ sig (Elt F)) : after ops V (main_v15 : DevRef τ sig)
    = attn (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_cons, unary_bufs_sub, binary_bufs_sub, nullary_bufs_sub, List.Forall, and_self]

/-- From any memory with zero counters, every execution of the reference ends with the result at `attn` of the arguments, which are left
    as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = attn (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v15).trans (out_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

/-- The reference's frame; it declares no semaphore. -/
theorem frame : Cert.quiescent_ReferenceIdeal := fun m ρ _ =>
  (θ_run defs _ _).mono (fun r h => ⟨fun c => (h c).2, sem_eq_zero_of_no_sems (by decide) r.2⟩) (run_main (F := Ideal) m ρ)

end Cert.Proof.Ref

end
-- ==== Proof.Math.lean ====
/-
  Softmax attention over the extended reals: with real scores, dividing the sums of unshifted exponentials once is adding up
  the weights of the shifted ones; and the order in which the ring brings the keys leaves their sum alone.
-/
module

public import proofs.«01_k».proof.Proof.Common
public import Idealize.ShloMosaic.PureOps.Ideal.Laws

@[expose] public section

noncomputable section

namespace Cert.Proof.Math

open Idealize.ShloMosaic

variable {ι : Type}

/-- A sum times a real that is not negative. -/
theorem sum_mul_coe (s : Finset ι) (a : ι → EReal) {x : ℝ} (hx : 0 ≤ x) :
    (∑ i ∈ s, a i) * (x : EReal) = ∑ i ∈ s, a i * (x : EReal) := by
  classical
  induction s using Finset.induction_on with
  | empty => simp
  | insert i s hi ih =>
    rw [Finset.sum_insert hi, Finset.sum_insert hi, EReal.right_distrib_of_nonneg_of_ne_top (by exact_mod_cast hx) (EReal.coe_ne_top x), ih]

theorem coe_sum (s : Finset ι) (a : ι → ℝ) : ∑ i ∈ s, (a i : EReal) = ((∑ i ∈ s, a i : ℝ) : EReal) := by
  classical
  induction s using Finset.induction_on with
  | empty => simp
  | insert i s hi ih => rw [Finset.sum_insert hi, Finset.sum_insert hi, ih, EReal.coe_add]

/-- The largest of some real values is a real. -/
theorem fold_max_real (s : Finset ι) (f : ι → EReal) (hf : ∀ i, ∃ r : ℝ, f i = r) (hs : s.Nonempty) :
    ∃ M : ℝ, s.fold max ⊥ f = M := by
  classical
  induction hs using Finset.Nonempty.cons_induction with
  | singleton a => rw [Finset.fold_singleton, max_bot_right]; exact hf a
  | cons a s ha hs ih =>
    obtain ⟨M, hM⟩ := ih
    obtain ⟨r, hr⟩ := hf a
    rw [Finset.fold_cons, hM, hr]
    exact ⟨max r M, (EReal.coe_strictMono.monotone.map_max).symm⟩

/-- A sum of products of real factors is a real. -/
theorem sum_real (s : Finset ι) (a b : ι → EReal) (ha : ∀ i, ∃ r : ℝ, a i = r) (hb : ∀ i, ∃ r : ℝ, b i = r) :
    ∃ r : ℝ, ∑ i ∈ s, a i * b i = r := by
  choose x hx using ha
  choose y hy using hb
  refine ⟨∑ i ∈ s, x i * y i, ?_⟩
  rw [← coe_sum]
  exact Finset.sum_congr rfl fun i _ => by rw [hx, hy, EReal.coe_mul]

/-- A sum of weighted values divided once is the sum of the values at the normalised weights, whatever real `M` the scores
    are shifted by. The values may be infinite. -/
theorem soft [Fintype ι] [Nonempty ι] (f : ι → EReal) (hf : ∀ i, ∃ r : ℝ, f i = r) (M : ℝ) (v : ι → EReal) :
    Ideal.div (∑ i, Ideal.exp (f i) * v i) (∑ i, Ideal.exp (f i))
      = ∑ i, Ideal.div (Ideal.exp (f i - (M : EReal))) (∑ j, Ideal.exp (f j - (M : EReal))) * v i := by
  choose s hs using hf
  obtain rfl : f = fun i => (s i : EReal) := funext hs
  have e1 : ∑ i, Ideal.exp (s i : EReal) = ((∑ i, Real.exp (s i) : ℝ) : EReal) := (coe_sum _ _)
  have e2 : ∑ i, Ideal.exp ((s i : EReal) - (M : EReal)) = ((∑ i, Real.exp (s i - M) : ℝ) : EReal) := coe_sum _ fun i => Real.exp (s i - M)
  have p1 : 0 < ∑ i, Real.exp (s i) := Finset.sum_pos (fun _ _ => Real.exp_pos _) Finset.univ_nonempty
  have p2 : 0 < ∑ i, Real.exp (s i - M) := Finset.sum_pos (fun _ _ => Real.exp_pos _) Finset.univ_nonempty
  have e3 : ∑ i, Real.exp (s i - M) = (∑ i, Real.exp (s i)) * Real.exp (-M) := by
    rw [Finset.sum_mul]; exact Finset.sum_congr rfl fun i _ => by rw [← Real.exp_add, sub_eq_add_neg]
  rw [e1, e2, Ideal.div_coe p1.ne', sum_mul_coe _ _ (by positivity)]
  refine Finset.sum_congr rfl fun i _ => ?_
  rw [Ideal.div_coe p2.ne', mul_right_comm]
  refine congrArg (· * v i) ?_
  show ((Real.exp (s i) : ℝ) : EReal) * _ = ((Real.exp (s i - M) : ℝ) : EReal) * _
  rw [← EReal.coe_mul, ← EReal.coe_mul, e3, sub_eq_add_neg, Real.exp_add]
  congr 1
  field_simp

/-! ### The order of the keys -/

open Cert.KernelIdeal (nD)

/-- Row `j` of a side's half of a block. -/
def hrow (σ : Bool) (j : Fin 2048) : Fin 4096 := if σ then ⟨j.val, by omega⟩ else ⟨2048 + j.val, by omega⟩

/-- The row of the whole array at which row `r` of device `b`'s block stands. -/
def grow (b : Fin 8) (r : Fin 4096) : Fin 32768 := ⟨4096 * b.val + r.val, by omega⟩

theorem orig_bij (σ : Bool) (c : Dev nD) : Function.Bijective (fun h : Fin 8 => (orig σ h.val c : Fin 8)) := by
  revert σ c; decide

/-- Both halves of every device's block, in the order in which they reach a device, are all the keys. -/
theorem keys_sum (g : Fin 32768 → EReal) (c : Dev nD) :
    ∑ h ∈ Finset.range 8, (∑ j, g (grow (orig true h c) (hrow true j)) + ∑ j, g (grow (orig false h c) (hrow false j))) = ∑ k, g k := by
  have half : ∀ σ, ∑ h ∈ Finset.range 8, ∑ j, g (grow (orig σ h c) (hrow σ j)) = ∑ b : Fin 8, ∑ j, g (grow b (hrow σ j)) := fun σ => by
    rw [Finset.sum_range]
    exact Fintype.sum_bijective _ (orig_bij σ c) _ _ fun _ => rfl
  rw [Finset.sum_add_distrib, half true, half false, ← Finset.sum_add_distrib]
  rw [← Equiv.sum_comp (finProdFinEquiv (m := 8) (n := 4096)) g, Fintype.sum_prod_type]
  refine Finset.sum_congr rfl fun b _ => ?_
  rw [← Equiv.sum_comp (finCongr (show 2048 + 2048 = 4096 from rfl)), Fin.sum_univ_add]
  refine congrArg₂ (· + ·) (Finset.sum_congr rfl fun j _ => congrArg g (Fin.ext ?_)) (Finset.sum_congr rfl fun j _ => congrArg g (Fin.ext ?_))
  · show 4096 * b.val + j.val = j.val + 4096 * b.val; omega
  · show 4096 * b.val + (2048 + j.val) = (2048 + j.val) + 4096 * b.val; omega

end Cert.Proof.Math

end
-- ==== Proof.Entries.lean ====
/-
  The kernel's buffers entry by entry, at the extended reals: what its vector operations compute, what a loop over blocks of
  rows leaves, and so each entry of the output block.
-/
module

public import proofs.«01_k».proof.Proof.Body
public import proofs.«01_k».proof.Proof.Math
public import Idealize.ShloMosaic.Lib.Pointwise

@[expose] public section

set_option maxRecDepth 16384

noncomputable section

namespace Cert.Proof

open Cert.KernelIdeal Cert.KernelIdeal.Gen
open Idealize.ShloMosaic

/-! ### Blocks of rows -/

section Rows

variable {sp : Space} {e : EltTy} {N n w : ℕ} (v : View sig .tc sp ⟨2, ![N, w]⟩ e) {Val : EltTy → Type}
  (off : Fin 2 → ℕ) (inb : ∀ a, off a + (![n, w] : Fin 2 → ℕ) a ≤ (![N, w] : Fin 2 → ℕ) a)

/-- A load of `n` rows reads the entry that many rows down. -/
theorem read_rows (f : v.ty.Contents Val) (o : ℕ) (ho : off = ![o, 0]) (r : Fin n) (d : Fin w) (h : o + r.val < N) :
    v.readAt Val (Rect.unit (s := ⟨2, ![N, w]⟩) off ![n, w] inb).toLoadRect f (ix2 r d) = v.read Val f (ix2 ⟨o + r.val, h⟩ d) := by
  subst ho
  rw [View.readAt_apply]
  refine congrArg (v.read Val f) (funext fun a => Fin.ext ?_)
  match a with
  | ⟨0, _⟩ => show o + 1 * r.val = o + r.val; omega
  | ⟨1, _⟩ => show 0 + 1 * d.val = d.val; omega

/-- A store of `n` rows puts its entries there, -/
theorem read_write_rows (f : v.ty.Contents Val) (P : (⟨2, ![n, w]⟩ : Shape).Idx → Val e) (o : ℕ) (ho : off = ![o, 0]) (i : Fin N) (d : Fin w)
    (r : Fin n) (h : i.val = o + r.val) :
    v.read Val ((v.slice (Rect.unit (s := ⟨2, ![N, w]⟩) off ![n, w] inb)).write Val f P Finset.univ) (ix2 i d) = P (ix2 r d) := by
  subst ho
  have hi : (ix2 i d : (⟨2, ![N, w]⟩ : Shape).Idx) = (Rect.unit (s := ⟨2, ![N, w]⟩) ![o, 0] ![n, w] inb).emb (ix2 r d) := by
    funext a; refine Fin.ext ?_
    match a with
    | ⟨0, _⟩ => show i.val = o + 1 * r.val; omega
    | ⟨1, _⟩ => show d.val = 0 + 1 * d.val; omega
  rw [hi]
  exact View.read_slice_write_emb _ _ _ (Finset.mem_univ _)

/-- and leaves the other rows alone. -/
theorem read_write_rows_ne (f : v.ty.Contents Val) (P : (⟨2, ![n, w]⟩ : Shape).Idx → Val e) (o : ℕ) (ho : off = ![o, 0]) (i : Fin N) (d : Fin w)
    (h : i.val < o ∨ o + n ≤ i.val) :
    v.read Val ((v.slice (Rect.unit (s := ⟨2, ![N, w]⟩) off ![n, w] inb)).write Val f P Finset.univ) (ix2 i d) = v.read Val f (ix2 i d) := by
  subst ho
  refine View.read_slice_write_of_not_mem _ _ _ _ fun hm => ?_
  obtain ⟨x, -, hx⟩ := Finset.mem_map.mp hm
  have h0 : o + 1 * (x 0).val = i.val := congrArg Fin.val (congrFun hx 0)
  have h1 : (x 0).val < n := (x 0).isLt
  omega

end Rows

/-- A loop whose trip `t` changes the entries of rows `512 t` to `512 t + 511`, each by itself. -/
theorem steps_rows {A ι X : Type} {m : ℕ} (f : Fin m → A → A) (get : A → Fin 4096 → ι → X) (g : Fin 4096 → ι → X → X)
    (hin : ∀ t a i d, i.val / 512 = t.val → get (f t a) i d = g i d (get a i d))
    (hout : ∀ t a i d, i.val / 512 ≠ t.val → get (f t a) i d = get a i d) (a : A) (i : Fin 4096) (d : ι) :
    ∀ n, n ≤ m → get (steps f n a) i d = if i.val / 512 < n then g i d (get a i d) else get a i d
  | 0, _ => by rw [if_neg (Nat.not_lt_zero _)]; rfl
  | n + 1, hn => by
    have ih := steps_rows f get g hin hout a i d n (by omega)
    rw [show steps f (n + 1) a = f ⟨n, hn⟩ (steps f n a) from steps_succ f ⟨n, hn⟩ a]
    by_cases h : i.val / 512 = n
    · rw [hin _ _ _ _ h, ih, if_neg (by omega), if_pos (by omega)]
    · rw [hout _ _ _ _ h, ih]
      by_cases h' : i.val / 512 < n
      · rw [if_pos h', if_pos (by omega)]
      · rw [if_neg h', if_neg (by omega)]

/-! ### The vector operations -/

/-- A key's weight before the weights are normalised. -/
def wt (q k : Fin 256 → EReal) : EReal := Ideal.exp ((∑ f, q f * k f) * Ideal.ofBits .f32 0x3D800000#32)

section Pay

variable (q : Vec Ideal S512x256 .bf16) (Kt Vt Kf Vf : Vec Ideal S2048x256 .bf16)

theorem oPay_at (o : Vec Ideal S512x256 .f32) (r : Fin 512) (d : Fin 256) :
    k0_pay50 (k0_pay3 q o (up Kt) (up Vt)) (k0_pay6 q (up Kf)) (up Vf) (ix2 r d)
      = o (ix2 r d) + ∑ j, wt (fun f => q (ix2 r f)) (fun f => Kt (ix2 j f)) * Vt (ix2 j d)
        + ∑ j, wt (fun f => q (ix2 r f)) (fun f => Kf (ix2 j f)) * Vf (ix2 j d) := by
  pointwise [k0_pay50, k0_pay3, k0_pay6, k0_pay2, k0_pay4, up, wt]

theorem lPay_at (l : Vec Ideal S512x1 .f32) (r : Fin 512) (z : Fin 1) :
    k0_pay51 (k0_pay5 q l (up Kt) (up Kf)) (ix2 r z)
      = l (ix2 r z) + ∑ j, wt (fun f => q (ix2 r f)) (fun f => Kt (ix2 j f)) + ∑ j, wt (fun f => q (ix2 r f)) (fun f => Kf (ix2 j f)) := by
  obtain rfl : z = 0 := Subsingleton.elim _ _
  pointwise [k0_pay51, k0_pay5, k0_pay2, k0_pay4, up, wt]

theorem nPay_at (o : Vec Ideal S512x256 .f32) (l : Vec Ideal S512x1 .f32) (r : Fin 512) (d : Fin 256) :
    k0_pay1 o l (ix2 r d) = Ideal.div (o (ix2 r d)) (l (ix2 r 0)) := by
  pointwise [k0_pay1]

end Pay

/-! ### The loops -/

theorem off1_eq : ∀ t : Fin k0_t1_loop.trips, k0_off1 t = ![512 * t.val, 0] := by decide
theorem off2_eq : ∀ t : Fin k0_t1_loop.trips, k0_off2 t = ![512 * t.val, 0] := by decide
theorem off17_eq : ∀ t : Fin k0_t9_loop.trips, k0_off17 t = ![512 * t.val, 0] := by decide
theorem off18_eq : ∀ t : Fin k0_t9_loop.trips, k0_off18 t = ![512 * t.val, 0] := by decide

/-- The entries of the local buffers. -/
def oGet (O : oM.view.ty.Contents (Elt Ideal)) (i : Fin 4096) (d : Fin 256) : EReal := oM.view.read (Elt Ideal) O (ix2 i d)
@[inherit_doc oGet] def lGet (D : lM.view.ty.Contents (Elt Ideal)) (i : Fin 4096) (z : Fin 1) : EReal := lM.view.read (Elt Ideal) D (ix2 i z)
@[inherit_doc oGet] def qGet (Qb : qbM.view.ty.Contents (Elt Ideal)) (i : Fin 4096) (f : Fin 256) : EReal := qbM.view.read (Elt Ideal) Qb (ix2 i f)

/-- The row of a block at which a trip's row stands. -/
def brow {T : ℕ} (t : Fin T) (i : Fin 4096) (_ : i.val / 512 = t.val) : Fin 512 := ⟨i.val - 512 * t.val, by omega⟩

section Hop

variable (Qb : qbM.view.ty.Contents (Elt Ideal)) (X : Bool → Bool → Vec Ideal S2048x256 .bf16)

/-- The weights of row `i`'s query at the two halves' keys, weighted values and their sum. -/
def oAdd (i : Fin 4096) (d : Fin 256) (o : EReal) : EReal :=
  o + ∑ j, wt (qGet Qb i) (fun f => X true false (ix2 j f)) * X true true (ix2 j d)
    + ∑ j, wt (qGet Qb i) (fun f => X false false (ix2 j f)) * X false true (ix2 j d)
@[inherit_doc oAdd] def lAdd (i : Fin 4096) (_ : Fin 1) (l : EReal) : EReal :=
  l + ∑ j, wt (qGet Qb i) (fun f => X true false (ix2 j f)) + ∑ j, wt (qGet Qb i) (fun f => X false false (ix2 j f))

theorem readRows_q (t : Fin k0_t1_loop.trips) (i : Fin 4096) (h : i.val / 512 = t.val) (f : Fin 256) :
    qbM.view.readAt (Elt Ideal) (rowsR t).toLoadRect Qb (ix2 (brow t i h) f) = qGet Qb i f := by
  refine (read_rows qbM.view _ _ Qb (512 * t.val) (off1_eq t) (brow t i h) f (by have := i.isLt; unfold brow; dsimp only; omega)).trans ?_
  unfold qGet; congr 2; exact Fin.ext (by unfold brow; dsimp only; omega)

theorem oStep_in (t : Fin k0_t1_loop.trips) (O) (i : Fin 4096) (d : Fin 256) (h : i.val / 512 = t.val) :
    oGet (oStep Qb X t O) i d = oAdd Qb X i d (oGet O i d) := by
  have hr : oM.view.readAt (Elt Ideal) (rowsR t).toLoadRect O (ix2 (brow t i h) d) = oGet O i d := by
    refine (read_rows oM.view _ _ O (512 * t.val) (off1_eq t) (brow t i h) d (by have := i.isLt; unfold brow; dsimp only; omega)).trans ?_
    unfold oGet; congr 2; exact Fin.ext (by unfold brow; dsimp only; omega)
  unfold oGet oStep
  refine (read_write_rows oM.view _ _ O _ (512 * t.val) (off1_eq t) i d (brow t i h) (by unfold brow; dsimp only; omega)).trans ?_
  refine (oPay_at _ _ _ _ _ _ _ _).trans ?_
  unfold oAdd
  rw [hr, show (fun f => qbM.view.readAt (Elt Ideal) (rowsR t).toLoadRect Qb (ix2 (brow t i h) f)) = qGet Qb i from funext (readRows_q Qb t i h)]
  rfl

theorem oStep_out (t : Fin k0_t1_loop.trips) (O) (i : Fin 4096) (d : Fin 256) (h : i.val / 512 ≠ t.val) :
    oGet (oStep Qb X t O) i d = oGet O i d :=
  read_write_rows_ne oM.view _ _ O _ (512 * t.val) (off1_eq t) i d (by omega)

theorem lStep_in (t : Fin k0_t1_loop.trips) (D) (i : Fin 4096) (z : Fin 1) (h : i.val / 512 = t.val) :
    lGet (lStep Qb X t D) i z = lAdd Qb X i z (lGet D i z) := by
  have hr : lM.view.readAt (Elt Ideal) (colR t).toLoadRect D (ix2 (brow t i h) z) = lGet D i z := by
    refine (read_rows lM.view _ _ D (512 * t.val) (off2_eq t) (brow t i h) z (by have := i.isLt; unfold brow; dsimp only; omega)).trans ?_
    unfold lGet; congr 2; exact Fin.ext (by unfold brow; dsimp only; omega)
  unfold lGet lStep
  refine (read_write_rows lM.view _ _ D _ (512 * t.val) (off2_eq t) i z (brow t i h) (by unfold brow; dsimp only; omega)).trans ?_
  refine (lPay_at _ _ _ _ _ _).trans ?_
  unfold lAdd
  rw [hr, show (fun f => qbM.view.readAt (Elt Ideal) (rowsR t).toLoadRect Qb (ix2 (brow t i h) f)) = qGet Qb i from funext (readRows_q Qb t i h)]
  rfl

theorem lStep_out (t : Fin k0_t1_loop.trips) (D) (i : Fin 4096) (z : Fin 1) (h : i.val / 512 ≠ t.val) :
    lGet (lStep Qb X t D) i z = lGet D i z :=
  read_write_rows_ne lM.view _ _ D _ (512 * t.val) (off2_eq t) i z (by omega)

theorem trips1 : k0_t1_loop.trips = 8 := by decide
theorem trips9 : k0_t9_loop.trips = 8 := by decide

/-- What a hop's loop leaves. -/
theorem oHop (O) (i : Fin 4096) (d : Fin 256) : oGet (steps (oStep Qb X) k0_t1_loop.trips O) i d = oAdd Qb X i d (oGet O i d) := by
  rw [steps_rows (oStep Qb X) oGet (oAdd Qb X) (fun t a i d h => oStep_in Qb X t a i d h) (fun t a i d h => oStep_out Qb X t a i d h) O i d _ le_rfl,
    if_pos (by have := trips1; have := i.isLt; omega)]
@[inherit_doc oHop] theorem lHop (D) (i : Fin 4096) (z : Fin 1) : lGet (steps (lStep Qb X) k0_t1_loop.trips D) i z = lAdd Qb X i z (lGet D i z) := by
  rw [steps_rows (lStep Qb X) lGet (lAdd Qb X) (fun t a i d h => lStep_in Qb X t a i d h) (fun t a i d h => lStep_out Qb X t a i d h) D i z _ le_rfl,
    if_pos (by have := trips1; have := i.isLt; omega)]

end Hop

section Norm

variable (D : lM.view.ty.Contents (Elt Ideal))

theorem nStep_in (t : Fin k0_t9_loop.trips) (O) (i : Fin 4096) (d : Fin 256) (h : i.val / 512 = t.val) :
    oGet (nStep D t O) i d = Ideal.div (oGet O i d) (lGet D i 0) := by
  have hb : 512 * t.val + (brow t i h).val < 4096 := by have := i.isLt; unfold brow; dsimp only; omega
  have hi : (⟨512 * t.val + (brow t i h).val, hb⟩ : Fin 4096) = i := Fin.ext (by unfold brow; dsimp only; omega)
  unfold oGet nStep
  refine (read_write_rows oM.view _ _ O _ (512 * t.val) (off17_eq t) i d (brow t i h) (by unfold brow; dsimp only; omega)).trans ?_
  refine (nPay_at _ _ _ _).trans (congrArg₂ Ideal.div ?_ ?_)
  · refine (read_rows oM.view _ _ O (512 * t.val) (off17_eq t) (brow t i h) d hb).trans ?_
    rw [hi]
  · refine (read_rows lM.view _ _ D (512 * t.val) (off18_eq t) (brow t i h) 0 hb).trans ?_
    rw [hi]; rfl

theorem nStep_out (t : Fin k0_t9_loop.trips) (O) (i : Fin 4096) (d : Fin 256) (h : i.val / 512 ≠ t.val) :
    oGet (nStep D t O) i d = oGet O i d :=
  read_write_rows_ne oM.view _ _ O _ (512 * t.val) (off17_eq t) i d (by omega)

/-- The closing loop divides. -/
theorem nLoop (O) (i : Fin 4096) (d : Fin 256) :
    oGet (steps (nStep D) k0_t9_loop.trips O) i d = Ideal.div (oGet O i d) (lGet D i 0) := by
  rw [steps_rows (nStep D) oGet (fun i d o => Ideal.div o (lGet D i 0)) (fun t a i d h => nStep_in D t a i d h)
      (fun t a i d h => nStep_out D t a i d h) O i d _ le_rfl, if_pos (by have := trips9; have := i.isLt; omega)]

end Norm

/-! ### The eight hops -/

section Hops

variable (B : Bool → Bool → Dev nD → Vec Ideal S2048x256 .bf16) (Qb : qbM.view.ty.Contents (Elt Ideal)) (c : Dev nD)

theorem oAt_at (i : Fin 4096) (d : Fin 256) : ∀ n, oGet (oAt B Qb c n) i d
    = ∑ h ∈ Finset.range n, (∑ j, wt (qGet Qb i) (fun f => B true false (orig true h c) (ix2 j f)) * B true true (orig true h c) (ix2 j d)
      + ∑ j, wt (qGet Qb i) (fun f => B false false (orig false h c) (ix2 j f)) * B false true (orig false h c) (ix2 j d))
  | 0 => by
    rw [Finset.sum_range_zero]
    show k0_pay48 (F := Ideal) (ix2 i d) = 0
    pointwise [k0_pay48]
  | n + 1 => by
    rw [Finset.sum_range_succ, ← oAt_at i d n, ← add_assoc]
    exact oHop Qb _ _ i d

theorem lAt_at (i : Fin 4096) (z : Fin 1) : ∀ n, lGet (lAt B Qb c n) i z
    = ∑ h ∈ Finset.range n, (∑ j, wt (qGet Qb i) (fun f => B true false (orig true h c) (ix2 j f))
      + ∑ j, wt (qGet Qb i) (fun f => B false false (orig false h c) (ix2 j f)))
  | 0 => by
    obtain rfl : z = 0 := Subsingleton.elim _ _
    rw [Finset.sum_range_zero]
    show k0_pay49 (F := Ideal) (ix2 i 0) = 0
    pointwise [k0_pay49]
  | n + 1 => by
    rw [Finset.sum_range_succ, ← lAt_at i z n, ← add_assoc]
    exact lHop Qb _ _ i z

theorem outAt_at (i : Fin 4096) (d : Fin 256) :
    oGet (outAt B Qb c) i d = Ideal.div (oGet (oAt B Qb c 8) i d) (lGet (lAt B Qb c 8) i 0) := nLoop _ _ i d

end Hops

/-! ### The blocks -/

/-- A half of a block, as it stands in a slot. -/
theorem half_at (x : Memref sig .tc .vmem S4096x256 .f32) (σ : Bool) (f : x.view.ty.Contents (Elt Ideal)) (j : Fin 2048) (d : Fin 256) :
    half x (hoff σ) (hoff_inb σ) f (ix2 j d) = x.view.read (Elt Ideal) f (ix2 (Math.hrow σ j) d) := by
  have e : ∀ Y : Vec Ideal S2048x256 .f32, down (k0_pay43 Y) (ix2 j d) = Y (ix2 j d) := fun Y => by pointwise [k0_pay43, down]
  unfold half
  rw [e]
  cases σ with
  | false => exact (read_rows x.view _ _ f 2048 rfl j d (by omega)).trans rfl
  | true =>
    refine (read_rows x.view _ _ f 0 rfl j d (by omega)).trans (congrArg (fun r => x.view.read (Elt Ideal) f (ix2 r d)) (Fin.ext ?_))
    show 0 + j.val = j.val; omega

theorem qb_at (Qv : qM.view.ty.Contents (Elt Ideal)) (i : Fin 4096) (f : Fin 256) :
    qGet (qb Qv) i f = qM.view.read (Elt Ideal) Qv (ix2 i f) := by
  show k0_pay42 (F := Ideal) (Qv : Vec Ideal S4096x256 .f32) (ix2 i f) = (Qv : Vec Ideal S4096x256 .f32) (ix2 i f)
  pointwise [k0_pay42]

end Cert.Proof

end
-- ==== Proof.RVal.lean ====
/-
  The reference's result at an index: a softmax over all keys.
-/
module

public import proofs.«01_k».proof.Proof.Ref
public import Idealize.ShloMosaic.Lib.Pointwise

@[expose] public section

noncomputable section

namespace Cert.Proof.Ref

open Cert.ReferenceIdeal Cert.ReferenceIdeal.Gen
open Idealize.ShloMosaic

set_option maxRecDepth 16384

/-- A score. -/
def sc (q k : Whole Ideal) (i j : Fin 32768) : EReal := (∑ f : Fin 256, q (ix2 i f) * k (ix2 j f)) * ((1 / 16 : ℝ) : EReal)

theorem scale : Ideal.sqrt (Ideal.ofBits .f32 0x43800000#32) = ((16 : ℝ) : EReal) := by
  have h : Ideal.ofBits .f32 0x43800000#32 = ((256 : ℝ) : EReal) := by
    simp [Ideal.ofBits, Ideal.ieee, -EReal.coe_mul]; norm_num
  rw [h, Ideal.sqrt_coe, if_neg (by norm_num), show (256 : ℝ) = 16 ^ 2 by norm_num, Real.sqrt_sq (by norm_num)]

theorem scores_at (q k : Whole Ideal) (i j : Fin 32768) : scores q k (ix2 i j) = sc q k i j := by
  have h : scores q k (ix2 i j) = Ideal.div (∑ f : Fin 256, q (ix2 i f) * k (ix2 j f)) (Ideal.sqrt (Ideal.ofBits .f32 0x43800000#32)) := by
    pointwise [scores]
    rfl
  rw [h, scale, Ideal.div_coe (by norm_num)]
  rfl

theorem expo_at (s : Vec Ideal S32768x32768 .f32) (i j : Fin 32768) :
    expo s (ix2 i j) = Ideal.exp (s (ix2 i j) - Finset.univ.fold max ⊥ fun l => s (ix2 i l)) := by
  have hb : Ideal.ofBits .f32 0xFF800000#32 = ⊥ := by simp [Ideal.ofBits, Ideal.ieee]
  rw [← hb]
  pointwise [expo, rows]

theorem weights_at (e : Vec Ideal S32768x32768 .f32) (i j : Fin 32768) :
    weights e (ix2 i j) = Ideal.div (e (ix2 i j)) (∑ l, e (ix2 i l)) := by
  pointwise [weights, rows]

theorem attn_at (q k v : Whole Ideal) (i : Fin 32768) (d : Fin 256) :
    attn q k v (ix2 i d) = ∑ j, weights (expo (scores q k)) (ix2 i j) * v (ix2 j d) := by
  pointwise [attn]

end Cert.Proof.Ref

end
-- ==== Proof.Value.lean ====
/-
  The idealized program's result is the reference's: each device holds its block of a softmax over all keys.
-/
module

public import proofs.«01_k».proof.Proof.Run
public import proofs.«01_k».proof.Proof.Entries
public import proofs.«01_k».proof.Proof.RVal
public import Idealize.ShloMosaic.Lib.ReduceAll
public import Idealize.ShloMosaic.Lib.Layout

@[expose] public section

set_option maxRecDepth 16384

noncomputable section

namespace Cert.Proof

open Cert.KernelIdeal Cert.KernelIdeal.Gen
open Idealize.ShloMosaic Idealize.ShloMosaic.TcCoe

/-! ### The windows -/

variable (m : (ℓ : Loc nD τ sig) → Buf (Elt Ideal) ℓ)

theorem qIn_eq (c : Dev nD) : qIn m c = m ((c.tc : Thread nD τ).loc main_arg0) := by
  have hz : (fun a => (win0_0.index t0_0) a * main_arg0.ty.shape.size a) = fun _ => 0 := funext fun a => by fin_cases a <;> decide
  exact Memref.read_access_unit_zero (Elt Ideal) main_arg0 hz (fun a => by fin_cases a <;> decide) _
theorem kIn_eq (c : Dev nD) : kIn' m c = m ((c.tc : Thread nD τ).loc main_arg1) := by
  have hz : (fun a => (win0_1.index t0_0) a * main_arg1.ty.shape.size a) = fun _ => 0 := funext fun a => by fin_cases a <;> decide
  exact Memref.read_access_unit_zero (Elt Ideal) main_arg1 hz (fun a => by fin_cases a <;> decide) _
theorem vIn_eq (c : Dev nD) : vIn m c = m ((c.tc : Thread nD τ).loc main_arg2) := by
  have hz : (fun a => (win0_2.index t0_0) a * main_arg2.ty.shape.size a) = fun _ => 0 := funext fun a => by fin_cases a <;> decide
  exact Memref.read_access_unit_zero (Elt Ideal) main_arg2 hz (fun a => by fin_cases a <;> decide) _

theorem final_out (c : Dev nD) : finalA m c (3 : Fin 4) = res m c := by
  have hz : (fun a => (win0_3.index t0_0) a * main_v1.ty.shape.size a) = fun _ => 0 := funext fun a => by fin_cases a <;> decide
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact Memref.write_access_unit_zero_univ (Elt Ideal) main_v1 hz (fun a => by fin_cases a <;> decide) _ _

/-! ### The precondition -/

section Pre

open Cert.Pre_finite_qk_KernelIdeal (fn)

instance preFacts : Cert.Pre_finite_qk_KernelIdeal.Facts := ⟨by decide, by decide, by decide⟩
instance preFactsRef : Cert.Pre_finite_qk_ReferenceIdeal.Facts := ⟨by decide, by decide, by decide⟩

theorem real_of_abs_lt (x : EReal) (h : max x (-x) < ⊤) : ∃ r : ℝ, x = r := by
  induction x using EReal.rec with
  | bot => simp at h
  | top => simp at h
  | coe r => exact ⟨r, rfl⟩

/-- Where the precondition holds, the queries and the keys are finite. -/
theorem pre_real (q k v : Vec Ideal S4096x256 .f32) (h : fn (F := Ideal) q k v = fun _ => 1#1) (i : S4096x256.Idx) :
    (∃ r : ℝ, q i = r) ∧ ∃ r : ℝ, k i = r := by
  have ht : Ideal.ofBits .f32 0x7F800000#32 = ⊤ := by simp [Ideal.ofBits, Ideal.ieee]
  have one : ∀ x : Vec Ideal S4096x256 .f32, cmpf .olt (Host.absf x) (broadcastInDim S4096x256 ![] Cert.Pre_finite_qk_KernelIdeal.Facts.bcast_S_S4096x256 (constant (F := Ideal) S_ .f32 0x7F800000#32)) i = 1#1
      → ∃ r : ℝ, x i = r := fun x hx => real_of_abs_lt _ (by
    have hx : BitVec.ofBool (decide (max (x i) (-(x i)) < Ideal.ofBits .f32 0x7F800000#32)) = 1#1 := hx
    rw [ht] at hx
    by_contra hn
    rw [decide_eq_false hn] at hx
    exact absurd hx (by decide))
  obtain ⟨h1, h2⟩ := IntOp.andi_eq_one.1 (congrFun h ix0)
  exact ⟨one q (Host.reduce_andi_all _ _ _ _ _ h1 i), one k (Host.reduce_andi_all _ _ _ _ _ h2 i)⟩

end Pre

/-! ### The blocks of the whole arrays -/

section Whole

variable (Q K V : Ref.Whole Ideal)

/-- A device's block of a whole array. -/
abbrev part (c : Dev nD) (X : Ref.Whole Ideal) : Vec Ideal S4096x256 .f32 := Layout.block ⟨2, ![4096, 256]⟩ ⟨2, ![32768, 256]⟩ 0 8 c X

theorem part_at (c : Dev nD) (X : Ref.Whole Ideal) (r : Fin 4096) (d : Fin 256) : part c X (ix2 r d) = X (ix2 (Math.grow c r) d) :=
  congrArg X (funext fun a => by
    fin_cases a
    · exact Fin.ext (by show c.val * 4096 + r.val = 4096 * c.val + r.val; omega)
    · rfl)

/-- Each row of the whole array is a row of one device's block. -/
theorem grow_surj (k : Fin 32768) : ∃ (c : Dev nD) (r : Fin 4096), Math.grow c r = k :=
  ⟨(⟨k.val / 4096, by omega⟩ : Fin 8), ⟨k.val % 4096, by omega⟩, Fin.ext (Nat.div_add_mod _ _)⟩

theorem real_of_parts (X : Ref.Whole Ideal) (h : ∀ c i, ∃ r : ℝ, part c X i = r) (k : Fin 32768) (f : Fin 256) : ∃ r : ℝ, X (ix2 k f) = r := by
  obtain ⟨c, r, rfl⟩ := grow_surj k
  rw [← part_at c X r f]
  exact h c _

theorem sc_real (hQ : ∀ k f, ∃ r : ℝ, Q (ix2 k f) = r) (hK : ∀ k f, ∃ r : ℝ, K (ix2 k f) = r) (i j : Fin 32768) : ∃ r : ℝ, Ref.sc Q K i j = r := by
  obtain ⟨r, hr⟩ := Math.sum_real Finset.univ (fun f => Q (ix2 i f)) (fun f => K (ix2 j f)) (hQ i) (hK j)
  exact ⟨r * (1 / 16), by unfold Ref.sc; rw [hr, ← EReal.coe_mul]⟩

theorem wt_eq (i j : Fin 32768) : wt (fun f => Q (ix2 i f)) (fun f => K (ix2 j f)) = Ideal.exp (Ref.sc Q K i j) := by
  have h : Ideal.ofBits .f32 0x3D800000#32 = ((1 / 16 : ℝ) : EReal) := by
    simp [Ideal.ofBits, Ideal.ieee, -EReal.coe_mul]; norm_num
  unfold wt Ref.sc; rw [h]

/-- The reference's result, where the scores are finite: the weighted sum over the weights' sum. -/
theorem attn_soft (hQ : ∀ k f, ∃ r : ℝ, Q (ix2 k f) = r) (hK : ∀ k f, ∃ r : ℝ, K (ix2 k f) = r) (i : Fin 32768) (d : Fin 256) :
    Ref.attn Q K V (ix2 i d) = Ideal.div (∑ j, Ideal.exp (Ref.sc Q K i j) * V (ix2 j d)) (∑ j, Ideal.exp (Ref.sc Q K i j)) := by
  obtain ⟨M, hM⟩ := Math.fold_max_real Finset.univ (fun j => Ref.sc Q K i j) (sc_real Q K hQ hK i) ⟨0, Finset.mem_univ _⟩
  rw [Math.soft (fun j => Ref.sc Q K i j) (sc_real Q K hQ hK i) M, Ref.attn_at]
  simp only [Ref.weights_at, Ref.expo_at, Ref.scores_at, hM]

variable (h0 : ∀ c : Dev nD, m ((c.tc : Thread nD τ).loc main_arg0) = part c Q)
  (h1 : ∀ c : Dev nD, m ((c.tc : Thread nD τ).loc main_arg1) = part c K)
  (h2 : ∀ c : Dev nD, m ((c.tc : Thread nD τ).loc main_arg2) = part c V)

include h1 in
theorem blks_key (σ : Bool) (b : Dev nD) (j : Fin 2048) (f : Fin 256) : blks m σ false b (ix2 j f) = K (ix2 (Math.grow b (Math.hrow σ j)) f) := by
  refine (half_at kM σ (kIn' m b) j f).trans ?_
  rw [kIn_eq, h1]
  exact part_at b K _ f

include h2 in
theorem blks_value (σ : Bool) (b : Dev nD) (j : Fin 2048) (d : Fin 256) : blks m σ true b (ix2 j d) = V (ix2 (Math.grow b (Math.hrow σ j)) d) := by
  refine (half_at vM σ (vIn m b) j d).trans ?_
  rw [vIn_eq, h2]
  exact part_at b V _ d

include h0 in
theorem query (c : Dev nD) (i : Fin 4096) : qGet (qb (qIn m c)) i = fun f => Q (ix2 (Math.grow c i) f) := funext fun f => by
  refine (qb_at (qIn m c) i f).trans ?_
  rw [qIn_eq, h0]
  exact part_at c Q i f

include h0 h1 h2 in
/-- The program's result, at an index. -/
theorem res_at (c : Dev nD) (i : Fin 4096) (d : Fin 256) :
    oGet (res m c) i d = Ideal.div (∑ j, Ideal.exp (Ref.sc Q K (Math.grow c i) j) * V (ix2 j d)) (∑ j, Ideal.exp (Ref.sc Q K (Math.grow c i) j)) := by
  unfold res
  rw [outAt_at, oAt_at, lAt_at, query m Q h0]
  simp only [blks_key m K h1, blks_value m V h2, wt_eq]
  rw [Math.keys_sum (fun j => Ideal.exp (Ref.sc Q K (Math.grow c i) j) * V (ix2 j d)) c, Math.keys_sum (fun j => Ideal.exp (Ref.sc Q K (Math.grow c i) j)) c]

include h0 h1 h2 in
theorem res_eq (hp : ∀ c : Dev nD, ∀ i, (∃ r : ℝ, part c Q i = r) ∧ ∃ r : ℝ, part c K i = r) (c : Dev nD) :
    res m c = part c (Ref.attn Q K V) := funext fun j => by
  have hQ := real_of_parts Q fun c i => (hp c i).1
  have hK := real_of_parts K fun c i => (hp c i).2
  rw [eq_ix2 (n0 := 4096) (n1 := 256) j]
  refine (res_at m Q K V h0 h1 h2 c _ _).trans ?_
  exact ((part_at c _ _ _).trans (attn_soft Q K V hQ hK _ _)).symm

end Whole

/-! ### The claim -/

/-- The idealized program and the reference, on the same arguments with finite queries and keys, leave the same result. -/
theorem algebraic : Cert.algebraic_KernelIdeal_ReferenceIdeal_pre_finite_qk_KernelIdeal := by
  intro m ρ m' ρ' hpre hag
  refine ⟨_, ?_, (θ_run _ _ _).mono (fun _ h => h 0) (Ref.run_main (F := Ideal) m' ρ')⟩
  refine (θ_run _ _ _).mono (fun r h c => ⟨?_, (h.1 c (0 : Fin 4)).trans (final_q m c), (h.1 c (1 : Fin 4)).trans (final_k m c),
    (h.1 c (2 : Fin 4)).trans (final_v m c)⟩) (run_main (F := Ideal) m ρ)
  refine (h.1 c (3 : Fin 4)).trans ((final_out m c).trans ?_)
  refine res_eq m _ _ _ (fun c => (hag c).1) (fun c => (hag c).2.1) (fun c => (hag c).2.2) (fun c i => ?_) c
  have h := pre_real _ _ _ (hpre c) i
  rw [(hag c).1, (hag c).2.1] at h
  exact h

end Cert.Proof

end
-- ==== Proof.lean ====
/-
  The certificate of the ring attention kernel: its frame, its idealization's and the reference's, that the idealization is
  the kernel at ideal values, and that the idealization computes the reference's attention.
-/
module

public import proofs.«01_k».proof.Defs
public import proofs.«01_k».proof.Proof.Frames
public import proofs.«01_k».proof.Proof.Ref
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, preFacts, preFactsRef,
    frame_kernel, frame_ideal, fun m ρ _ => frame_ideal m ρ trivial, Ref.frame, fun m ρ _ => Ref.frame m ρ trivial, trivial, algebraic⟩

end Cert.Proof

end
